-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = m' (((0 : Dev Cert.UnclippedIdeal.nD).tc : Thread Cert.UnclippedIdeal.nD Cert.UnclippedIdeal.τ).loc Cert.UnclippedIdeal.main_arg1)) →
    ∃ (v0 : Buf (Elt Ideal) (((0 : Dev Cert.UnclippedIdeal.nD).tc : Thread Cert.UnclippedIdeal.nD Cert.UnclippedIdeal.τ).loc Cert.UnclippedIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v5) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def algebraic_KernelIdeal_ReferenceIdeal_on_in_range [hKernelIdeal : Cert.KernelIdeal.Facts] [hReferenceIdeal : Cert.ReferenceIdeal.Facts] [hOn_in_range : Cert.On_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 2048]⟩ : Shape).Idx, (Layout.block ⟨2, ![512, 2048]⟩ ⟨2, ![4096, 2048]⟩ 0 8 c ((Cert.On_in_range.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![512, 2048]⟩ : Shape).Idx → _) i = 1#1 → r.2.mem ((c.tc : Thread Cert.KernelIdeal.nD Cert.KernelIdeal.τ).loc Cert.KernelIdeal.main_v1) i = (Layout.block ⟨2, ![512, 2048]⟩ ⟨2, ![4096, 2048]⟩ 0 8 c v0 : (⟨2, ![512, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 2048]⟩ : Shape).Idx, (Cert.On_in_range.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hOn_in_range : Cert.On_in_range.Facts),
    quiescent_Kernel (hKernel := hKernel)
    ∧ quiescent_KernelIdeal (hKernelIdeal := hKernelIdeal)
    ∧ quiescent_ReferenceIdeal (hReferenceIdeal := hReferenceIdeal)
    ∧ quiescent_UnclippedIdeal (hUnclippedIdeal := hUnclippedIdeal)
    ∧ preserves_Kernel_KernelIdeal
    ∧ algebraic_KernelIdeal_UnclippedIdeal (hKernelIdeal := hKernelIdeal) (hUnclippedIdeal := hUnclippedIdeal)
    ∧ algebraic_KernelIdeal_ReferenceIdeal_on_in_range (hKernelIdeal := hKernelIdeal) (hReferenceIdeal := hReferenceIdeal) (hOn_in_range := hOn_in_range)
-- ==== On_in_range.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) : IVec S4096x2048 1 :=
  let main_v0 : FVec F S4096x2048 .f32 := (fun l r => Host.dotGeneral dot_S4096x4096_S4096x2048_S4096x2048_1_0_0_1_n_n none l r) main_arg0 main_arg1
  let main_cst : FVec F S_ .f32 := constant S_ .f32 0xC2700000#32
  let main_v1 : FVec F S4096x2048 .f32 := broadcastInDim S4096x2048 ![] bcast_S_S4096x2048 main_cst
  let main_v2 : IVec S4096x2048 1 := cmpf .oge main_v0 main_v1
  let main_cst_0 : FVec F S_ .f32 := constant S_ .f32 0x42700000#32
  let main_v3 : FVec F S4096x2048 .f32 := broadcastInDim S4096x2048 ![] bcast_S_S4096x2048 main_cst_0
  let main_v4 : IVec S4096x2048 1 := cmpf .ole main_v0 main_v3
  let main_v5 : IVec S4096x2048 1 := andi main_v2 main_v4
  main_v5
-- ==== Kernel.lean ====
abbrev S4096x512 : Shape := ⟨2, ![4096, 512]⟩
abbrev S4096x2048 : Shape := ⟨2, ![4096, 2048]⟩
abbrev S512x2048 : Shape := ⟨2, ![512, 2048]⟩
abbrev S7x512x512 : Shape := ⟨3, ![7, 512, 512]⟩
abbrev S7 : Shape := ⟨1, ![7]⟩
abbrev S_ : Shape := ⟨0, ![]⟩
abbrev S1 : Shape := ⟨1, ![1]⟩
abbrev S1x512x512 : Shape := ⟨3, ![1, 512, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S512x2048, .f32⟩
  | .local _ .vmem, ⟨0, _⟩ => ⟨S512x2048, .f32⟩
  | .local _ .vmem, ⟨1, _⟩ => ⟨S4096x512, .f32⟩
  | .local _ .vmem, ⟨2, _⟩ => ⟨S4096x512, .bf16⟩
  | .local _ .vmem, ⟨3, _⟩ => ⟨S4096x2048, .f32⟩
  | .local _ .vmem, ⟨4, _⟩ => ⟨S7x512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 8 17 bufScoped semScoped dmaSemScoped tileCredit tileCredit_eq_zero tileCredit_pos).withBarriers [(0, 7)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 7

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v7 : BitVec 32 := Scalar.muli v2 c1_i32_2
  let v8 : BitVec 32 := Scalar.addi c0_i32 v7
  v8.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_4 : BitVec 32 := 1#32
  let v9 : BitVec 32 := Scalar.addi v3 c1_i32_4
  let c4_i32_5 : BitVec 32 := 4#32
  let v10 : BitVec 32 := Scalar.remsi v9 c4_i32_5
  let v11 : BitVec 32 := Scalar.addi v4 v10
  let c1_i32_7 : BitVec 32 := 1#32
  let v14 : BitVec 32 := Scalar.muli v11 c1_i32_7
  let v15 : BitVec 32 := Scalar.addi c0_i32_8 v14
  v15.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c2_i32_9 : BitVec 32 := 2#32
  let v16 : BitVec 32 := Scalar.addi v3 c2_i32_9
  let c4_i32_10 : BitVec 32 := 4#32
  let v17 : BitVec 32 := Scalar.remsi v16 c4_i32_10
  let v18 : BitVec 32 := Scalar.addi v4 v17
  let c1_i32_13 : BitVec 32 := 1#32
  let v21 : BitVec 32 := Scalar.muli v18 c1_i32_13
  let v22 : BitVec 32 := Scalar.addi c0_i32_14 v21
  v22.toNat
def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v23 : BitVec 32 := Scalar.addi v3 c3_i32
  let c4_i32_15 : BitVec 32 := 4#32
  let v24 : BitVec 32 := Scalar.remsi v23 c4_i32_15
  let v25 : BitVec 32 := Scalar.addi v4 v24
  let c1_i32_18 : BitVec 32 := 1#32
  let v28 : BitVec 32 := Scalar.muli v25 c1_i32_18
  let v29 : BitVec 32 := Scalar.addi c0_i32_19 v28
  v29.toNat
def k0_dev5 (d0 : Dev nD) : Nat :=
  let c0_i32_25 : BitVec 32 := 0#32
  let c4_i32_0 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v5 : BitVec 32 := Scalar.subi c4_i32_0 v4
  let c0_i32_20 : BitVec 32 := 0#32
  let v30 : BitVec 32 := Scalar.addi v3 c0_i32_20
  let c4_i32_21 : BitVec 32 := 4#32
  let v31 : BitVec 32 := Scalar.remsi v30 c4_i32_21
  let v32 : BitVec 32 := Scalar.addi v5 v31
  let c1_i32_24 : BitVec 32 := 1#32
  let v35 : BitVec 32 := Scalar.muli v32 c1_i32_24
  let v36 : BitVec 32 := Scalar.addi c0_i32_25 v35
  v36.toNat
def k0_dev6 (d0 : Dev nD) : Nat :=
  let c0_i32_30 : BitVec 32 := 0#32
  let c4_i32_0 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v5 : BitVec 32 := Scalar.subi c4_i32_0 v4
  let c1_i32_26 : BitVec 32 := 1#32
  let v37 : BitVec 32 := Scalar.addi v3 c1_i32_26
  let c4_i32_27 : BitVec 32 := 4#32
  let v38 : BitVec 32 := Scalar.remsi v37 c4_i32_27
  let v39 : BitVec 32 := Scalar.addi v5 v38
  let c1_i32_29 : BitVec 32 := 1#32
  let v42 : BitVec 32 := Scalar.muli v39 c1_i32_29
  let v43 : BitVec 32 := Scalar.addi c0_i32_30 v42
  v43.toNat
def k0_dev7 (d0 : Dev nD) : Nat :=
  let c0_i32_35 : BitVec 32 := 0#32
  let c4_i32_0 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v5 : BitVec 32 := Scalar.subi c4_i32_0 v4
  let c2_i32_31 : BitVec 32 := 2#32
  let v44 : BitVec 32 := Scalar.addi v3 c2_i32_31
  let c4_i32_32 : BitVec 32 := 4#32
  let v45 : BitVec 32 := Scalar.remsi v44 c4_i32_32
  let v46 : BitVec 32 := Scalar.addi v5 v45
  let c1_i32_34 : BitVec 32 := 1#32
  let v49 : BitVec 32 := Scalar.muli v46 c1_i32_34
  let v50 : BitVec 32 := Scalar.addi c0_i32_35 v49
  v50.toNat
def k0_dev8 (d0 : Dev nD) : Nat :=
  let c0_i32_41 : BitVec 32 := 0#32
  let c4_i32_0 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v5 : BitVec 32 := Scalar.subi c4_i32_0 v4
  let c3_i32_36 : BitVec 32 := 3#32
  let v51 : BitVec 32 := Scalar.addi v3 c3_i32_36
  let c4_i32_37 : BitVec 32 := 4#32
  let v52 : BitVec 32 := Scalar.remsi v51 c4_i32_37
  let v53 : BitVec 32 := Scalar.addi v5 v52
  let c1_i32_40 : BitVec 32 := 1#32
  let v56 : BitVec 32 := Scalar.muli v53 c1_i32_40
  let v57 : BitVec 32 := Scalar.addi c0_i32_41 v56
  v57.toNat
def k0_off1 (d0 : Dev nD) (c1_i32_45 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v63 : BitVec 32 := Scalar.addi v3 c1_i32_45
  let c4_i32_46 : BitVec 32 := 4#32
  let v64 : BitVec 32 := Scalar.remsi v63 c4_i32_46
  let v65 : BitVec 32 := Scalar.addi v4 v64
  let c512_i32 : BitVec 32 := 512#32
  let v68 : BitVec 32 := Scalar.muli v65 c512_i32
  let c0_i32_57 : BitVec 32 := 0#32
  ![v68.toNat, 0]
def k0_dev9 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_45 : BitVec 32 := 1#32
  let v63 : BitVec 32 := Scalar.addi v3 c1_i32_45
  let c4_i32_46 : BitVec 32 := 4#32
  let v64 : BitVec 32 := Scalar.remsi v63 c4_i32_46
  let v65 : BitVec 32 := Scalar.addi v4 v64
  let c1_i32_53 : BitVec 32 := 1#32
  let v69 : BitVec 32 := Scalar.muli v65 c1_i32_53
  let v70 : BitVec 32 := Scalar.addi c0_i32_54 v69
  v70.toNat
def k0_dev10 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c2_i32_58 : BitVec 32 := 2#32
  let v78 : BitVec 32 := Scalar.addi v3 c2_i32_58
  let c4_i32_59 : BitVec 32 := 4#32
  let v79 : BitVec 32 := Scalar.remsi v78 c4_i32_59
  let v80 : BitVec 32 := Scalar.addi v4 v79
  let c1_i32_67 : BitVec 32 := 1#32
  let v84 : BitVec 32 := Scalar.muli v80 c1_i32_67
  let v85 : BitVec 32 := Scalar.addi c0_i32_68 v84
  v85.toNat
def k0_dev11 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_72 : BitVec 32 := 3#32
  let v93 : BitVec 32 := Scalar.addi v3 c3_i32_72
  let c4_i32_73 : BitVec 32 := 4#32
  let v94 : BitVec 32 := Scalar.remsi v93 c4_i32_73
  let v95 : BitVec 32 := Scalar.addi v4 v94
  let c1_i32_81 : BitVec 32 := 1#32
  let v99 : BitVec 32 := Scalar.muli v95 c1_i32_81
  let v100 : BitVec 32 := Scalar.addi c0_i32_82 v99
  v100.toNat
def k0_off2 (d0 : Dev nD) (c0_i32_86 : BitVec 32) : Fin 2 → Nat :=
  let c4_i32_0 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v5 : BitVec 32 := Scalar.subi c4_i32_0 v4
  let v108 : BitVec 32 := Scalar.addi v3 c0_i32_86
  let c4_i32_87 : BitVec 32 := 4#32
  let v109 : BitVec 32 := Scalar.remsi v108 c4_i32_87
  let v110 : BitVec 32 := Scalar.addi v5 v109
  let c512_i32_91 : BitVec 32 := 512#32
  let v113 : BitVec 32 := Scalar.muli v110 c512_i32_91
  let c0_i32_99 : BitVec 32 := 0#32
  ![v113.toNat, 0]
def k0_dev12 (d0 : Dev nD) : Nat :=
  let c0_i32_96 : BitVec 32 := 0#32
  let c4_i32_0 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v5 : BitVec 32 := Scalar.subi c4_i32_0 v4
  let c0_i32_86 : BitVec 32 := 0#32
  let v108 : BitVec 32 := Scalar.addi v3 c0_i32_86
  let c4_i32_87 : BitVec 32 := 4#32
  let v109 : BitVec 32 := Scalar.remsi v108 c4_i32_87
  let v110 : BitVec 32 := Scalar.addi v5 v109
  let c1_i32_95 : BitVec 32 := 1#32
  let v114 : BitVec 32 := Scalar.muli v110 c1_i32_95
  let v115 : BitVec 32 := Scalar.addi c0_i32_96 v114
  v115.toNat
def k0_dev13 (d0 : Dev nD) : Nat :=
  let c0_i32_110 : BitVec 32 := 0#32
  let c4_i32_0 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v5 : BitVec 32 := Scalar.subi c4_i32_0 v4
  let c1_i32_100 : BitVec 32 := 1#32
  let v123 : BitVec 32 := Scalar.addi v3 c1_i32_100
  let c4_i32_101 : BitVec 32 := 4#32
  let v124 : BitVec 32 := Scalar.remsi v123 c4_i32_101
  let v125 : BitVec 32 := Scalar.addi v5 v124
  let c1_i32_109 : BitVec 32 := 1#32
  let v129 : BitVec 32 := Scalar.muli v125 c1_i32_109
  let v130 : BitVec 32 := Scalar.addi c0_i32_110 v129
  v130.toNat
def k0_dev14 (d0 : Dev nD) : Nat :=
  let c0_i32_124 : BitVec 32 := 0#32
  let c4_i32_0 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v5 : BitVec 32 := Scalar.subi c4_i32_0 v4
  let c2_i32_114 : BitVec 32 := 2#32
  let v138 : BitVec 32 := Scalar.addi v3 c2_i32_114
  let c4_i32_115 : BitVec 32 := 4#32
  let v139 : BitVec 32 := Scalar.remsi v138 c4_i32_115
  let v140 : BitVec 32 := Scalar.addi v5 v139
  let c1_i32_123 : BitVec 32 := 1#32
  let v144 : BitVec 32 := Scalar.muli v140 c1_i32_123
  let v145 : BitVec 32 := Scalar.addi c0_i32_124 v144
  v145.toNat
def k0_dev15 (d0 : Dev nD) : Nat :=
  let c0_i32_138 : BitVec 32 := 0#32
  let c4_i32_0 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v5 : BitVec 32 := Scalar.subi c4_i32_0 v4
  let c3_i32_128 : BitVec 32 := 3#32
  let v153 : BitVec 32 := Scalar.addi v3 c3_i32_128
  let c4_i32_129 : BitVec 32 := 4#32
  let v154 : BitVec 32 := Scalar.remsi v153 c4_i32_129
  let v155 : BitVec 32 := Scalar.addi v5 v154
  let c1_i32_137 : BitVec 32 := 1#32
  let v159 : BitVec 32 := Scalar.muli v155 c1_i32_137
  let v160 : BitVec 32 := Scalar.addi c0_i32_138 v159
  v160.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_142 : BitVec 32 := 512#32
  let v168 : BitVec 32 := Scalar.muli v2 c512_i32_142
  let v169 : Index := Scalar.indexCast v168
  let c0_143 : Index := 0#32
  ![v169.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_144 : BitVec 32 := 512#32
  let v171 : BitVec 32 := Scalar.muli v2 c512_i32_144
  let v172 : Index := Scalar.indexCast v171
  let c0_145 : Index := 0#32
  ![v172.toNat, 0]
def k0_off5 (d0 : Dev nD) (c0_i32_148 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v177 : BitVec 32 := Scalar.addi v3 c0_i32_148
  let c1_i32_149 : BitVec 32 := 1#32
  let v178 : BitVec 32 := Scalar.addi v177 c1_i32_149
  let c4_i32_150 : BitVec 32 := 4#32
  let v179 : BitVec 32 := Scalar.remsi v178 c4_i32_150
  let v180 : BitVec 32 := Scalar.addi v4 v179
  let c512_i32_162 : BitVec 32 := 512#32
  let v190 : BitVec 32 := Scalar.muli v180 c512_i32_162
  let v191 : Index := Scalar.indexCast v190
  let c0_163 : Index := 0#32
  ![v191.toNat, 0]
def k0_off6 (d0 : Dev nD) (c0_i32_209 : BitVec 32) : Fin 2 → Nat :=
  let c4_i32_0 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let v5 : BitVec 32 := Scalar.subi c4_i32_0 v4
  let v243 : BitVec 32 := Scalar.addi v3 c0_i32_209
  let c4_i32_210 : BitVec 32 := 4#32
  let v244 : BitVec 32 := Scalar.remsi v243 c4_i32_210
  let v245 : BitVec 32 := Scalar.addi v5 v244
  let c512_i32_221 : BitVec 32 := 512#32
  let v255 : BitVec 32 := Scalar.muli v245 c512_i32_221
  let v256 : Index := Scalar.indexCast v255
  let c0_222 : Index := 0#32
  ![v256.toNat, 0]
abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== UnclippedIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Mesh.lean ====
/- The eight devices, seen from one of them: its seven partners, the slot it occupies at each, the blocks of rows and the
   slots of the landing buffer, and the semaphores of the three arrays, slot by slot. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic

@[expose] public section

noncomputable section

namespace Cert.Gemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Partners -/

set_option backward.proofsInPublic true in
/-- Device `c`'s partner for slot `s`: slots 0, 1, 2 the three other devices of its half of the mesh, going round from the
    next one; slots 3 to 6 the four devices of the other half, going round from the one across. -/
def peer (c : Dev nD) (s : Fin 7) : Dev nD :=
  ⟨if s.val < 3 then 4 * (c.val / 4) + (c.val % 4 + s.val + 1) % 4 else 4 * (1 - c.val / 4) + (c.val % 4 + (s.val - 3)) % 4, by
    have hc : c.val < 8 := c.isLt
    have h8 : nD = 8 := rfl
    split <;> omega⟩

/-- The slot that device `c` is at its partner for slot `s`. -/
def rv (s : Fin 7) : Fin 7 := match s with
  | 0 => 2 | 1 => 1 | 2 => 0 | 3 => 3 | 4 => 6 | 5 => 5 | 6 => 4

theorem rv_rv (s : Fin 7) : rv (rv s) = s := by revert s; decide
theorem peer_peer (c : Dev nD) (s : Fin 7) : peer (peer c s) (rv s) = c := by revert c s; decide
theorem peer_peer' (c : Dev nD) (s : Fin 7) : peer (peer c (rv s)) s = c := by revert c s; decide

/-- A device and its slot, seen from the other end of the pair: an involution of the pairs. -/
def flip : Dev nD × Fin 7 ≃ Dev nD × Fin 7 :=
  ⟨fun x => (peer x.1 x.2, rv x.2), fun x => (peer x.1 x.2, rv x.2),
    fun x => by obtain ⟨c, s⟩ := x; simp only [peer_peer, rv_rv],
    fun x => by obtain ⟨c, s⟩ := x; simp only [peer_peer, rv_rv]⟩

/-- The eight devices are `c` and its seven partners. -/
theorem devs_list (c : Dev nD) :
    (Finset.univ : Finset (Dev nD)) = [c, peer c 0, peer c 1, peer c 2, peer c 3, peer c 4, peer c 5, peer c 6].toFinset := by
  revert c; decide
theorem devs_nodup (c : Dev nD) : [c, peer c 0, peer c 1, peer c 2, peer c 3, peer c 4, peer c 5, peer c 6].Nodup := by
  revert c; decide

/-! ## The device numbers the kernel computes -/

theorem dev1_eq (c : Dev nD) : (⟨k0_dev1 c, k0_dev1_lt c⟩ : Dev nD) = c := Fin.ext (k0_dev1_eq c)
theorem dev2_eq : ∀ c : Dev nD, (⟨k0_dev2 c, k0_dev2_lt c⟩ : Dev nD) = peer c 0 := by decide +kernel
theorem dev3_eq : ∀ c : Dev nD, (⟨k0_dev3 c, k0_dev3_lt c⟩ : Dev nD) = peer c 1 := by decide +kernel
theorem dev4_eq : ∀ c : Dev nD, (⟨k0_dev4 c, k0_dev4_lt c⟩ : Dev nD) = peer c 2 := by decide +kernel
theorem dev5_eq : ∀ c : Dev nD, (⟨k0_dev5 c, k0_dev5_lt c⟩ : Dev nD) = peer c 3 := by decide +kernel
theorem dev6_eq : ∀ c : Dev nD, (⟨k0_dev6 c, k0_dev6_lt c⟩ : Dev nD) = peer c 4 := by decide +kernel
theorem dev7_eq : ∀ c : Dev nD, (⟨k0_dev7 c, k0_dev7_lt c⟩ : Dev nD) = peer c 5 := by decide +kernel
theorem dev8_eq : ∀ c : Dev nD, (⟨k0_dev8 c, k0_dev8_lt c⟩ : Dev nD) = peer c 6 := by decide +kernel
theorem dev9_eq : ∀ c : Dev nD, (⟨k0_dev9 c, k0_dev9_lt c⟩ : Dev nD) = peer c 0 := by decide +kernel
theorem dev10_eq : ∀ c : Dev nD, (⟨k0_dev10 c, k0_dev10_lt c⟩ : Dev nD) = peer c 1 := by decide +kernel
theorem dev11_eq : ∀ c : Dev nD, (⟨k0_dev11 c, k0_dev11_lt c⟩ : Dev nD) = peer c 2 := by decide +kernel
theorem dev12_eq : ∀ c : Dev nD, (⟨k0_dev12 c, k0_dev12_lt c⟩ : Dev nD) = peer c 3 := by decide +kernel
theorem dev13_eq : ∀ c : Dev nD, (⟨k0_dev13 c, k0_dev13_lt c⟩ : Dev nD) = peer c 4 := by decide +kernel
theorem dev14_eq : ∀ c : Dev nD, (⟨k0_dev14 c, k0_dev14_lt c⟩ : Dev nD) = peer c 5 := by decide +kernel
theorem dev15_eq : ∀ c : Dev nD, (⟨k0_dev15 c, k0_dev15_lt c⟩ : Dev nD) = peer c 6 := by decide +kernel

/-! ## The row offsets the kernel computes -/

theorem off1_1 : ∀ c : Dev nD, k0_off1 c 1#32 = ![512 * (peer c 0).val, 0] := by decide +kernel
theorem off1_2 : ∀ c : Dev nD, k0_off1 c 2#32 = ![512 * (peer c 1).val, 0] := by decide +kernel
theorem off1_3 : ∀ c : Dev nD, k0_off1 c 3#32 = ![512 * (peer c 2).val, 0] := by decide +kernel
theorem off2_0 : ∀ c : Dev nD, k0_off2 c 0#32 = ![512 * (peer c 3).val, 0] := by decide +kernel
theorem off2_1 : ∀ c : Dev nD, k0_off2 c 1#32 = ![512 * (peer c 4).val, 0] := by decide +kernel
theorem off2_2 : ∀ c : Dev nD, k0_off2 c 2#32 = ![512 * (peer c 5).val, 0] := by decide +kernel
theorem off2_3 : ∀ c : Dev nD, k0_off2 c 3#32 = ![512 * (peer c 6).val, 0] := by decide +kernel
theorem off5_0 : ∀ c : Dev nD, k0_off5 c 0#32 = ![512 * (peer c 0).val, 0] := by decide +kernel
theorem off5_1 : ∀ c : Dev nD, k0_off5 c 1#32 = ![512 * (peer c 1).val, 0] := by decide +kernel
theorem off5_2 : ∀ c : Dev nD, k0_off5 c 2#32 = ![512 * (peer c 2).val, 0] := by decide +kernel
theorem off6_0 : ∀ c : Dev nD, k0_off6 c 0#32 = ![512 * (peer c 3).val, 0] := by decide +kernel
theorem off6_1 : ∀ c : Dev nD, k0_off6 c 1#32 = ![512 * (peer c 4).val, 0] := by decide +kernel
theorem off6_2 : ∀ c : Dev nD, k0_off6 c 2#32 = ![512 * (peer c 5).val, 0] := by decide +kernel
theorem off6_3 : ∀ c : Dev nD, k0_off6 c 3#32 = ![512 * (peer c 6).val, 0] := by decide +kernel

/-! ## The semaphores -/

/-- The three kinds of handshake semaphore, seven of each: a partner's slot is free, a block has left, a block has landed. -/
inductive Kd | rdy | snd | rcv
  deriving DecidableEq

instance : Fintype Kd := ⟨{.rdy, .snd, .rcv}, fun k => by cases k <;> simp⟩

set_option backward.proofsInPublic true in
def rdyS (s : Fin 7) : Sem sig := ⟨s.val, by have := s.isLt; show s.val < 8; omega⟩
set_option backward.proofsInPublic true in
def sndS (s : Fin 7) : DmaSem sig := ⟨1 + s.val, by have := s.isLt; show 1 + s.val < 17; omega⟩
set_option backward.proofsInPublic true in
def rcvS (s : Fin 7) : DmaSem sig := ⟨8 + s.val, by have := s.isLt; show 8 + s.val < 17; omega⟩

/-- The semaphore of a kind and a slot. -/
def semOf (k : Kd × Fin 7) : SemLoc sig := match k.1 with
  | .rdy => .reg (rdyS k.2) | .snd => .dma (sndS k.2) | .rcv => .dma (rcvS k.2)

abbrev barS : Sem sig := (SemArray.scalar (sig.barrier 0 rfl) : Sems sig S_).sem
abbrev xS : DmaSem sig := cc0_scratch7.sem
abbrev wS : DmaSem sig := cc0_scratch8.sem

theorem semOf_injective : ∀ k k', semOf k = semOf k' → k = k' := by decide

/-! ## The buffers -/

abbrev xHM : Memref sig .tc .hbm S4096x512 .f32 := Memref.whole main_arg0
abbrev wHM : Memref sig .tc .hbm S4096x2048 .f32 := Memref.whole main_arg1
abbrev oM : Memref sig .tc .vmem S512x2048 .f32 := Memref.whole cc0_stg0_0
abbrev xM : Memref sig .tc .vmem S4096x512 .f32 := Memref.whole cc0_scratch0
abbrev bM : Memref sig .tc .vmem S4096x512 .bf16 := Memref.whole cc0_scratch1
abbrev wM : Memref sig .tc .vmem S4096x2048 .f32 := Memref.whole cc0_scratch2
abbrev rM : Memref sig .tc .vmem S7x512x512 .bf16 := Memref.whole cc0_scratch3

theorem blk_inb (b : Dev nD) : ∀ a, (![512 * b.val, 0] : Fin 2 → ℕ) a + S512x512.size a ≤ S4096x512.size a := by
  revert b; decide +kernel
theorem wrow_inb (b : Dev nD) : ∀ a, (![512 * b.val, 0] : Fin 2 → ℕ) a + S512x2048.size a ≤ S4096x2048.size a := by
  revert b; decide +kernel
theorem slot_inb (s : Fin 7) : ∀ a, (![s.val, 0, 0] : Fin 3 → ℕ) a + S1x512x512.size a ≤ S7x512x512.size a := by
  revert s; decide +kernel

/-- Rows `512·b` to `512·b + 511` of the cast operand. -/
abbrev blkR (b : Dev nD) : Rect S4096x512 := Rect.unit (s := S4096x512) ![512 * b.val, 0] S512x512.size (blk_inb b)
def blkM (b : Dev nD) : Memref sig .tc .vmem S512x512 .bf16 := bM.slice (blkR b) (fun _ => rfl)
/-- Rows `512·b` to `512·b + 511` of the weights. -/
abbrev wrowR (b : Dev nD) : Rect S4096x2048 := Rect.unit (s := S4096x2048) ![512 * b.val, 0] S512x2048.size (wrow_inb b)
/-- Slot `s` of the landing buffer. -/
abbrev slotR (s : Fin 7) : Rect S7x512x512 := Rect.unit (s := S7x512x512) ![s.val, 0, 0] S1x512x512.size (slot_inb s)
def slotM (s : Fin 7) : Memref sig .tc .vmem S512x512 .bf16 :=
  (rM.slice (slotR s) (fun _ => rfl)).squeeze S512x512 squeezes_S1x512x512_S512x512

/-- A slice of the cast operand at offsets equal to a block's is the block. -/
theorem blk_of {o : Fin 2 → ℕ} (b : Dev nD) (ho : o = ![512 * b.val, 0]) (h : ∀ a, o a + S512x512.size a ≤ S4096x512.size a) (h1) :
    bM.slice (Rect.unit (s := S4096x512) o S512x512.size h) h1 = blkM b := by subst ho; rfl

abbrev N : ℕ := (slotM 0).view.dmaCredit
theorem N_pos : 0 < N := View.dmaCredit_pos _ (by decide)
theorem slot_credit (s : Fin 7) : (slotM s).view.dmaCredit = N := rfl
theorem blk_credit (b : Dev nD) : (blkM b).view.dmaCredit = N := rfl

/-! ## The blocks partition the cast operand, the slots the landing buffer -/

theorem blk_set (b : Dev nD) : (blkM b).view.set = (blkR b).set := View.set_slice_whole cc0_scratch1 (blkR b)
theorem slot_set (s : Fin 7) : (slotM s).view.set = (slotR s).set :=
  (View.set_reshape _ _).trans (View.set_slice_whole cc0_scratch3 (slotR s))

theorem mem_blk (b : Dev nD) (i : S4096x512.Idx) : i ∈ (blkR b).set ↔ (i 0).val / 512 = b.val := by
  rw [Rect.mem_set_unit]
  constructor
  · intro h
    have h0 := h 0
    simp only [Matrix.cons_val_zero] at h0
    have : S512x512.size 0 = 512 := rfl
    omega
  · intro h a
    fin_cases a
    · have : S512x512.size 0 = 512 := rfl
      constructor
      · show 512 * b.val ≤ (i 0).val; omega
      · show (i 0).val < 512 * b.val + 512; omega
    · exact ⟨Nat.zero_le _, by show (i 1).val < 0 + 512; have := (i 1).isLt; change (i 1).val < 512 at this; omega⟩
theorem mem_slot (s : Fin 7) (i : S7x512x512.Idx) : i ∈ (slotR s).set ↔ (i 0).val = s.val := by
  rw [Rect.mem_set_unit]
  constructor
  · intro h
    have h0 := h 0
    simp only [Matrix.cons_val_zero] at h0
    have : S1x512x512.size 0 = 1 := rfl
    omega
  · intro h a
    fin_cases a
    · exact ⟨by show s.val ≤ (i 0).val; omega, by show (i 0).val < s.val + 1; omega⟩
    · exact ⟨Nat.zero_le _, by show (i 1).val < 0 + 512; have := (i 1).isLt; change (i 1).val < 512 at this; omega⟩
    · exact ⟨Nat.zero_le _, by show (i 2).val < 0 + 512; have := (i 2).isLt; change (i 2).val < 512 at this; omega⟩

theorem blk_disj (b b' : Dev nD) (h : b ≠ b') : Disjoint (blkR b).set (blkR b').set := by
  rw [Finset.disjoint_left]
  intro i hi hi'
  exact h (Fin.ext (((mem_blk b i).mp hi).symm.trans ((mem_blk b' i).mp hi')))
theorem slot_disj (s s' : Fin 7) (h : s ≠ s') : Disjoint (slotR s).set (slotR s').set := by
  rw [Finset.disjoint_left]
  intro i hi hi'
  exact h (Fin.ext (((mem_slot s i).mp hi).symm.trans ((mem_slot s' i).mp hi')))
theorem blk_cover : (Finset.univ.biUnion fun b : Dev nD => (blkR b).set) = Finset.univ := by
  ext i
  simp only [Finset.mem_biUnion, Finset.mem_univ, true_and, iff_true]
  have hi : (i 0).val < 4096 := (i 0).isLt
  refine ⟨⟨(i 0).val / 512, by show _ < 8; omega⟩, ?_⟩
  rw [mem_blk]
theorem slot_cover : (Finset.univ.biUnion fun s : Fin 7 => (slotR s).set) = Finset.univ := by
  ext i
  simp only [Finset.mem_biUnion, Finset.mem_univ, true_and, iff_true]
  have hi : (i 0).val < 7 := (i 0).isLt
  refine ⟨⟨(i 0).val, hi⟩, ?_⟩
  rw [mem_slot]

end Cert.Gemm

end
-- ==== Proof.Sched.lean ====
/- The handshake of the eight devices as a schedule of single payments: what each of a device's twenty-one cells is paid, by
   whom, and what each device owes when it starts. -/
module

public import proofs.«01_k».proof.Proof.Mesh

@[expose] public section

noncomputable section

namespace Cert.Gemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
/-- The handshake cells' share of the ghost state. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

def s₀ : MemSt nD τ sig (Elt F) := ⟨m, fun _ => 0, ρ⟩

/-! ## The cells -/

/-- Device `c`'s cell of a kind and a slot. -/
abbrev kcell (ck : Dev nD × (Kd × Fin 7)) : GSem nD τ sig := ((ck.1 : Thread nD τ), semOf ck.2)

set_option backward.proofsInPublic true in
/-- The kind and the slot of a handshake semaphore; nothing for the others. -/
def kdOf : SemLoc sig → Option (Kd × Fin 7)
  | .reg s => if h : s.val < 7 then some (.rdy, ⟨s.val, h⟩) else none
  | .dma q => if h : 1 ≤ q.val ∧ q.val < 8 then some (.snd, ⟨q.val - 1, by omega⟩)
      else if h : 8 ≤ q.val ∧ q.val < 15 then some (.rcv, ⟨q.val - 8, by omega⟩) else none

theorem kdOf_semOf (k : Kd × Fin 7) : kdOf (semOf k) = some k := by revert k; decide

/-! ## Contents -/

/-- The device's operand as it stands in main memory. -/
def xAt (c : Dev nD) : Vec F S4096x512 .f32 := m ((c : Thread nD τ).loc main_arg0)
/-- The weights as they stand in the device's main memory. -/
def wAt (c : Dev nD) : Vec F S4096x2048 .f32 := m ((c : Thread nD τ).loc main_arg1)
/-- The device's operand cast. -/
def xb (c : Dev nD) : Vec F S4096x512 .bf16 := k0_pay1 (xAt m c)

/-- Block `b` of device `d`'s cast operand. -/
def xblk (d b : Dev nD) : Vec F S512x512 .bf16 := (blkM b).view.read (Elt F) (xb m d)

/-- Slot `s` of device `c`'s landing buffer, at contents `f`. -/
def slotPts (c : Dev nD) (s : Fin 7) (f : Buf (Elt F) ((slotM s).view.loc (c : Thread nD τ))) : sProp 𝕄 :=
  (slotM s).view.loc (c : Thread nD τ) ↦[(slotM s).view.set]{fullShare} f
/-- Block `b` of device `c`'s cast operand, at contents `f`. -/
def blkAt (c b : Dev nD) (f : Buf (Elt F) ((blkM b).view.loc (c : Thread nD τ))) : sProp 𝕄 :=
  (blkM b).view.loc (c : Thread nD τ) ↦[(blkM b).view.set]{fullShare} f
/-- Block `b` of device `c`'s cast operand, holding what the cast made. -/
def blkPts (c b : Dev nD) : sProp 𝕄 := blkAt c b (xb m c)

/-- What the partner's copy makes of slot `s` of device `c`: the partner's block of rows number `c`. -/
def landed (c : Dev nD) (s : Fin 7) (f : Buf (Elt F) ((slotM s).view.loc (c : Thread nD τ))) : Buf (Elt F) ((slotM s).view.loc (c : Thread nD τ)) :=
  (slotM s).view.write (Elt F) f (xblk m (peer c s) c) Finset.univ

omit [FloatOps F] in
instance slotPts_storable (c : Dev nD) (s) (f) : BI.Storable (upEmb : UEmb _ 𝕄) (slotPts (F := F) c s f) := by unfold slotPts; infer_instance
omit [FloatOps F] in
instance blkAt_storable (c b : Dev nD) (f) : BI.Storable (upEmb : UEmb _ 𝕄) (blkAt (F := F) c b f) := by unfold blkAt; infer_instance
instance blkPts_storable (c b : Dev nD) : BI.Storable (upEmb : UEmb _ 𝕄) (blkPts (F := F) m c b) := blkAt_storable c b _

/-! ## The schedule -/

/-- What each cell of device `c` is paid with: a ready cell, the partner's slot and that the partner's landing cell is open; a
    landing cell, the slot with the partner's block in it; a sending cell, the block sent, back. -/
def pay (c : Dev nD) : Kd × Fin 7 → sProp 𝕄
  | (.rdy, g) => iprop((∃ f, slotPts (peer c g) (rv g) f) ∗ reached ER (kcell (peer c g, (.rcv, rv g))) 0)
  | (.snd, s) => blkPts m c (peer c (rv s))
  | (.rcv, s) => iprop(∃ f, slotPts c s (landed m c s f))

instance pay_storable (c : Dev nD) (k : Kd × Fin 7) : BI.Storable (upEmb : UEmb _ 𝕄) (pay (F := F) m c k) := by
  obtain ⟨_ | _ | _, s⟩ := k <;> unfold pay <;> infer_instance

/-- How much each kind of cell is paid. -/
def amt : Kd → ℕ | .rdy => 1 | .snd => N | .rcv => N

def rd : Rounds.Schedule (GSem nD τ sig) Unit 𝕄 where
  duties g r := if r = 0 ∧ g.1.2 = .tc ∧ (kdOf g.2).isSome then {()} else ∅
  unitless _ := False
  amount g _ _ := (kdOf g.2).elim 1 fun k => amt k.1
  payload g _ _ := (kdOf g.2).elim iprop(emp) fun k => pay m g.1.1 k
  amount_pos g _ _ _ := by
    rcases kdOf g.2 with _ | ⟨_ | _ | _, s⟩
    · exact Nat.one_pos
    · exact Nat.one_pos
    · exact N_pos
    · exact N_pos

instance rd_payload_storable (g : GSem nD τ sig) (r : ℕ) (d : Unit) :
    BI.Storable (upEmb : UEmb _ 𝕄) ((rd (F := F) m).payload g r d) := by
  show BI.Storable upEmb ((kdOf g.2).elim iprop(emp) fun k => pay m g.1.1 k)
  cases kdOf g.2 with
  | none => exact inferInstanceAs (BI.Storable upEmb iprop(emp))
  | some k => exact pay_storable m g.1.1 k

section Sched
variable (c : Dev nD) (k : Kd × Fin 7)

theorem duties_cell : (rd (F := F) m).duties (kcell (c, k)) 0 = {()} := by
  dsimp only [rd]; exact if_pos ⟨rfl, rfl, by rw [kdOf_semOf]; rfl⟩
theorem mem_duties : () ∈ (rd (F := F) m).duties (kcell (c, k)) 0 := by rw [duties_cell]; exact Finset.mem_singleton_self _
theorem duties_later (g : GSem nD τ sig) : ∀ r, 1 ≤ r → (rd (F := F) m).duties g r = ∅ :=
  fun r hr => by dsimp only [rd]; rw [if_neg fun h => by omega]
theorem amount_cell : (rd (F := F) m).amount (kcell (c, k)) 0 () = amt k.1 := by dsimp only [rd]; rw [kdOf_semOf]; rfl
theorem expect_cell : (rd (F := F) m).expect (kcell (c, k)) 0 = amt k.1 := by
  unfold Schedule.expect Schedule.amountOf; rw [duties_cell, Finset.sum_singleton, amount_cell]
theorem payload_cell : (rd (F := F) m).payload (kcell (c, k)) 0 () = pay m c k := by dsimp only [rd]; rw [kdOf_semOf]; rfl
theorem rest_cell : bigSep ((rd (F := F) m).duties (kcell (c, k)) 0 \ ∅) (fun d => (rd (F := F) m).payload (kcell (c, k)) 0 d) = pay m c k := by
  rw [Finset.sdiff_empty, duties_cell, bigSep_singleton, payload_cell]

end Sched

/-! ## What each device owes; the levels -/

abbrev rdyC (c : Dev nD) (s : Fin 7) : GSem nD τ sig := kcell (c, (.rdy, s))
abbrev sndC (c : Dev nD) (s : Fin 7) : GSem nD τ sig := kcell (c, (.snd, s))
abbrev rcvC (c : Dev nD) (s : Fin 7) : GSem nD τ sig := kcell (c, (.rcv, s))

abbrev all7 : List (Fin 7) := [0, 1, 2, 3, 4, 5, 6]

/-- The landing credits device `c` owes its partners of a list of slots, the first slot's outermost. -/
def ORv (c : Dev nD) : List (Fin 7) → CellTallies nD τ sig Unit
  | [] => 0
  | g :: l => ORv c l + tallyAt (rcvC (peer c g) (rv g)) () N
/-- The ready units device `c` owes its partners of a list of slots, on top of all seven landing credits. -/
def ORd (c : Dev nD) : List (Fin 7) → CellTallies nD τ sig Unit
  | [] => ORv c all7
  | g :: l => ORd c l + tallyAt (rdyC (peer c g) (rv g)) () 1
/-- Everything device `c` owes when it starts. -/
def O₀ (c : Dev nD) : CellTallies nD τ sig Unit := ORd c all7

def L (g : GSem nD τ sig) : Finset Unit := if g.1.2 = .tc then {()} else ∅
def lvOf : Option (Kd × Fin 7) → ℕ | some (.rdy, _) => 1 | some (.rcv, _) => 2 | some (.snd, _) => 0 | none => 0
def lv (g : GSem nD τ sig) (_ : Unit) : ℕ := lvOf (kdOf g.2)

theorem L_of_ne (g : GSem nD τ sig) (h : g.1.2 ≠ .tc) : L g = ∅ := if_neg h
theorem L_tc (c : Dev nD) (sm : SemLoc sig) : L ((c : Thread nD τ), sm) = {()} := if_pos rfl

theorem ORv_pos {c : Dev nD} {g : GSem nD τ sig} {u : Unit} : ∀ {l : List (Fin 7)}, 0 < ORv c l g u → ∃ s, g = rcvC (peer c s) (rv s)
  | [], h => absurd h (Nat.lt_irrefl 0)
  | s :: l, h => by
    unfold ORv at h
    rw [Pi.add_apply, Finsupp.add_apply, tallyAt_apply] at h
    by_cases hg : g = rcvC (peer c s) (rv s)
    · exact ⟨s, hg⟩
    · rw [if_neg (fun h' => hg h'.1), Nat.add_zero] at h; exact ORv_pos h
theorem ORd_pos {c : Dev nD} {g : GSem nD τ sig} {u : Unit} :
    ∀ {l : List (Fin 7)}, 0 < ORd c l g u → (∃ s, g = rcvC (peer c s) (rv s)) ∨ ∃ s, g = rdyC (peer c s) (rv s)
  | [], h => Or.inl (ORv_pos h)
  | s :: l, h => by
    unfold ORd at h
    rw [Pi.add_apply, Finsupp.add_apply, tallyAt_apply] at h
    by_cases hg : g = rdyC (peer c s) (rv s)
    · exact Or.inr ⟨s, hg⟩
    · rw [if_neg (fun h' => hg h'.1), Nat.add_zero] at h; exact ORd_pos h

omit [FloatOps F] in
/-- A device may wait on a cell of the lowest level whatever it still owes. -/
theorem mayWait_low (c : Dev nD) (sm : SemLoc sig) (hs : lvOf (kdOf sm) = 0) (l : List (Fin 7)) :
    (levAts L lv : sProp 𝕄) ⊢ MayWait (c : Thread nD τ) sm () (ORd c l) :=
  MayOwe.of_cut (L := L) (lev := lv) 0 (fun p hp => by rw [Finset.mem_singleton.mp hp, L_tc]; exact Finset.mem_singleton_self _)
    (fun g u hg => by rcases ORd_pos hg with ⟨s, rfl⟩ | ⟨s, rfl⟩ <;> exact Finset.mem_singleton_self _)
    (fun p hp => by rw [Finset.mem_singleton.mp hp]; dsimp only [lv]; rw [hs])
    (fun g u hg => by
      rcases ORd_pos hg with ⟨s, rfl⟩ | ⟨s, rfl⟩ <;> dsimp only [lv] <;> rw [kdOf_semOf] <;> dsimp only [lvOf] <;> decide)

omit [FloatOps F] in
/-- A device may wait on its ready cells while it owes landing credits. -/
theorem mayWait_rdy (c : Dev nD) (s : Fin 7) (l : List (Fin 7)) :
    (levAts L lv : sProp 𝕄) ⊢ MayWait (c : Thread nD τ) (semOf (.rdy, s)) () (ORv c l) :=
  MayOwe.of_cut (L := L) (lev := lv) 1 (fun p hp => by rw [Finset.mem_singleton.mp hp, L_tc]; exact Finset.mem_singleton_self _)
    (fun g u hg => by obtain ⟨s, rfl⟩ := ORv_pos hg; exact Finset.mem_singleton_self _)
    (fun p hp => by rw [Finset.mem_singleton.mp hp]; dsimp only [lv]; rw [kdOf_semOf]; dsimp only [lvOf]; decide)
    (fun g u hg => by obtain ⟨s, rfl⟩ := ORv_pos hg; dsimp only [lv]; rw [kdOf_semOf]; dsimp only [lvOf]; decide)

end Cert.Gemm

end
-- ==== Proof.Steps.lean ====
/- The kernel's moves, one lemma each, at a symbolic device and a symbolic slot: say a slot is free, wait for a partner to say
   so and send it its block, wait for a block and add its product, wait for a block to have left. -/
module

public import proofs.«01_k».proof.Proof.Sched

@[expose] public section

noncomputable section

namespace Cert.Gemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## What every device may read -/

/-- Every cell's invariant, and that every cell is open. -/
def records (K : Dev nD × (Kd × Fin 7) → ℕ) : sProp 𝕄 :=
  iprop((bigSep Finset.univ fun ck : Dev nD × (Kd × Fin 7) => cellInv ER (rd m) (K ck) (kcell ck))
    ∗ bigSep Finset.univ fun ck : Dev nD × (Kd × Fin 7) => reached ER (kcell ck) 0)
instance records_persistent (K : Dev nD × (Kd × Fin 7) → ℕ) : BI.Persistent (records m K) := by unfold records; infer_instance

theorem inv_at (K : Dev nD × (Kd × Fin 7) → ℕ) (ck : Dev nD × (Kd × Fin 7)) : records m K ⊢ cellInv ER (rd m) (K ck) (kcell ck) := by
  unfold records
  exact sep_elim_left.trans (bigSep_elim (Finset.mem_univ ck))
theorem reached_at (K : Dev nD × (Kd × Fin 7) → ℕ) (ck : Dev nD × (Kd × Fin 7)) : records m K ⊢ reached ER (kcell ck) 0 := by
  unfold records
  exact sep_elim_right.trans (bigSep_elim (Finset.mem_univ ck))

/-- What a device owes, whatever waits it has made. -/
def ow (c : Dev nD) (O : CellTallies nD τ sig Unit) : sProp 𝕄 := iprop(∃ W, owes (c : Thread nD τ) O W)

/-! ## Values -/

abbrev oR : Rect S512x2048 := Rect.unit (s := S512x2048) ![0, 0] S512x2048.size inb_S512x2048_S512x2048_0_0

theorem hz : (![0, 0] : Fin 2 → Nat) = fun _ => 0 := funext fun a => by fin_cases a <;> rfl
theorem read_out (f : (cc0_stg0_0 : Ref sig .tc).ty.Contents (Elt F)) : oM.view.readAt (Elt F) oR.toLoadRect f = f :=
  Memref.readAt_unit_zero (Elt F) cc0_stg0_0 hz _ _
theorem write_out (f w : (cc0_stg0_0 : Ref sig .tc).ty.Contents (Elt F)) :
    (oM.access oR : View sig .tc _ _ _).write (Elt F) f w Finset.univ = w :=
  Memref.write_access_unit_zero_univ (Elt F) cc0_stg0_0 hz _ f w

/-- Rows `512·b` to `512·b + 511` of device `c`'s weights. -/
def wrow (c b : Dev nD) : Vec F S512x2048 .f32 := wM.view.readAt (Elt F) (wrowR b).toLoadRect (wAt m c)

/-- Slot `s` as it is loaded after the copy: the partner's block, under a leading axis of size one. -/
def ldv (c : Dev nD) (s : Fin 7) : Vec F S1x512x512 .bf16 :=
  shapeCast S1x512x512 (xblk m (peer c s) c) shapeCasts_S1x512x512_S512x512.symm

omit [FloatOps F] in
theorem slotPts_eq (c : Dev nD) (s : Fin 7) (f : Buf (Elt F) ((c : Thread nD τ).loc cc0_scratch3)) :
    slotPts c s f = (((c : Thread nD τ).loc cc0_scratch3) ↦[(slotR s).set]{fullShare} f : sProp 𝕄) :=
  congrArg (fun S : Finset S7x512x512.Idx => (((c : Thread nD τ).loc cc0_scratch3) ↦[S]{fullShare} f : sProp 𝕄)) (slot_set s)
theorem blkPts_eq (c b : Dev nD) :
    blkPts m c b = (((c : Thread nD τ).loc cc0_scratch1) ↦[(blkR b).set]{fullShare} (xb m c) : sProp 𝕄) :=
  congrArg (fun S : Finset S4096x512.Idx => (((c : Thread nD τ).loc cc0_scratch1) ↦[S]{fullShare} (xb m c) : sProp 𝕄)) (blk_set b)

/-- Reading through a view of another shape, at the index matched, reads the same element. -/
theorem read_reshape {sig : RefSig} {κ : Kind} {sp : Space} {s : Shape} {e : EltTy} {Val : EltTy → Type} (v : View sig κ sp s e)
    (s' : Shape) (h : s'.numel = s.numel) (f : v.ty.Contents Val) (j : s.Idx) :
    (v.reshape s' h).read Val f (Shape.reshapeEquiv h.symm j) = v.read Val f j := by
  rw [View.read_apply, View.read_apply]
  show _root_.cast _ (f (v.emb (Shape.reshapeEquiv h (Shape.reshapeEquiv h.symm j)))) = _
  rw [Shape.reshapeEquiv_reshapeEquiv, Shape.reshapeEquiv_self]

theorem read_slot (c : Dev nD) (s : Fin 7) (f : Buf (Elt F) ((slotM s).view.loc (c : Thread nD τ))) :
    rM.view.readAt (Elt F) (slotR s).toLoadRect (landed m c s f) = ldv m c s := by
  funext j
  have h := congrFun (View.read_write_univ (v := (slotM s).view) (Val := Elt F) f (xblk m (peer c s) c))
    (Shape.reshapeEquiv shapeCasts_S1x512x512_S512x512.symm j)
  exact (read_reshape (rM.view.slice (slotR s)) S512x512 squeezes_S1x512x512_S512x512.numel_eq (landed m c s f) j).symm.trans h

theorem setOn_slot (s : Fin 7) : rM.view.setOn (slotR s).toLoadRect.set ⊆ (slotR s).set :=
  ((View.set_slice rM.view (slotR s)).symm.trans (View.set_slice_whole cc0_scratch3 (slotR s))).subset

/-- One slot's contribution: the sum so far plus the product of the block landed and the rows of weights it belongs to; the
    last slot's then takes the activation. -/
def addS : Fin 7 → Vec F S1x512x512 .bf16 → Vec F S512x2048 .f32 → Vec F S512x2048 .f32 → Vec F S512x2048 .f32
  | 0 => k0_pay3 | 1 => k0_pay4 | 2 => k0_pay5 | 3 => fun r w o => k0_pay8 (k0_pay6 r w) (k0_pay7 o)
  | 4 => k0_pay9 | 5 => k0_pay10 | 6 => fun r w o => k0_pay12 (k0_pay11 r) w o

def accS (c : Dev nD) (s : Fin 7) (o : Vec F S512x2048 .f32) : Vec F S512x2048 .f32 := addS s (ldv m c s) (wrow m c (peer c s)) o

/-- What device `c` ends with: its own block's product, the seven others' added in the order of the slots, activated. -/
def outC (c : Dev nD) : Vec F S512x2048 .f32 :=
  accS m c 6 (accS m c 5 (accS m c 4 (accS m c 3 (accS m c 2 (accS m c 1 (accS m c 0 (k0_pay2 (xblk m c c) (wrow m c c))))))))

theorem pay_rdy_flip (c : Dev nD) (g : Fin 7) :
    pay m (peer c g) (.rdy, rv g) = iprop((∃ f, slotPts c g f) ∗ reached ER (kcell (c, (.rcv, g))) 0) := by
  show iprop((∃ f, slotPts (peer (peer c g) (rv g)) (rv (rv g)) f) ∗ reached ER (kcell (peer (peer c g) (rv g), (.rcv, rv (rv g)))) 0) = _
  rw [peer_peer, rv_rv]
theorem pay_rdy (c : Dev nD) (g : Fin 7) :
    pay m c (.rdy, g) = iprop((∃ f, slotPts (peer c g) (rv g) f) ∗ reached ER (kcell (peer c g, (.rcv, rv g))) 0) := rfl
theorem pay_snd (c : Dev nD) (g : Fin 7) : pay m c (.snd, rv g) = blkPts m c (peer c g) := by
  show blkPts m c (peer c (rv (rv g))) = _
  rw [rv_rv]
theorem pay_rcv (c : Dev nD) (s : Fin 7) : pay m c (.rcv, s) = iprop(∃ f, slotPts c s (landed m c s f)) := rfl
theorem pay_rcv_flip (c : Dev nD) (g : Fin 7) (f : Buf (Elt F) ((slotM (rv g)).view.loc (peer c g : Thread nD τ))) :
    landed m (peer c g) (rv g) f = (slotM (rv g)).view.write (Elt F) f ((blkM (peer c g)).view.read (Elt F) (xb m c)) Finset.univ := by
  unfold landed xblk; rw [peer_peer]

/-! ## The moves -/

section Moves

variable (K : Dev nD × (Kd × Fin 7) → ℕ) (c : Dev nD)

/-- Saying that slot `g` is free: the unit goes to the partner's ready cell, the slot with it. -/
theorem signalStep (g : Fin 7) (l : List (Fin 7)) {n : Dev nD} (hn : n = peer c g) {sem : Sem sig} (hs : sem = rdyS (rv g))
    {a : Int} (ha : a = ((1 : ℕ) : Int)) {α : Type} {Q : α → sProp 𝕄} {k : PUnit → Prog (TpuEff nD τ sig (Elt F) Λ₀ .tc) α} :
    iprop(records m K ∗ ow c (ORd c (g :: l)) ∗ dutyTok ER (rdyC (peer c g) (rv g)) 0 () ∗ ∃ f, slotPts c g f)
      ⊢ iprop((ow c (ORd c l) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) sem a) k) Q) := by
  subst hn hs ha
  unfold ow
  iintro ⟨#HR, ⟨%W, HO⟩, Ht, Hs⟩ Hk
  iapply (Rounds.wp_signal 𝒱₀ ER (rd m) (c : Thread nD τ) none (dst := (peer c g : Thread nD τ)) (κ := K (peer c g, (.rdy, rv g)))
      (d := ()) (mem_duties m (peer c g) (.rdy, rv g)) (amount_cell m (peer c g) (.rdy, rv g)) () (ORd c l) rfl) $$ [HO Ht Hs]
  · isplitr; · iapply (inv_at m K (peer c g, (.rdy, rv g))); iexact HR
    isplitl [HO]; · iexact HO
    isplitl [Ht]; · iexact Ht
    isplitl [Hs]
    · iapply (Entails.of_eq (show (rd (F := F) m).payload ((peer c g : Thread nD τ), .reg (rdyS (rv g))) 0 ()
          = pay m (peer c g) (.rdy, rv g) from payload_cell m (peer c g) (.rdy, rv g)).symm)
      rw [pay_rdy_flip]
      isplitl [Hs]; · iexact Hs
      iapply (reached_at m K (c, (.rcv, g))); iexact HR
    · iapply (reached_at m K (peer c g, (.rdy, rv g))); iexact HR
  iintro HO
  iapply Hk; iexists W; iexact HO

/-- Waiting for a partner to say its slot is free: the slot comes with the unit, and the ready cell closes. -/
theorem readyStep (g : Fin 7) (l : List (Fin 7)) {sem : Sem sig} (hs : sem = rdyS g)
    {a : Int} (ha : a = ((1 : ℕ) : Int)) {α : Type} {Q : α → sProp 𝕄} {k : PUnit → Prog (TpuEff nD τ sig (Elt F) Λ₀ .tc) α} :
    iprop(records m K ∗ levAts L lv ∗ ow c (ORv c l) ∗ cred (tallyAt (rdyC c g) () 1) ∗ atPos ER (rdyC c g) 0 ∅ 0)
      ⊢ iprop(((ow c (ORv c l) ∗ semVal (rdyC c g) 0 ∗ ∃ f, slotPts (peer c g) (rv g) f)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem a) k) Q) := by
  subst hs ha
  unfold ow
  iintro ⟨#HR, #Hlev, ⟨%W, HO⟩, Hc, Hat⟩ Hk
  iapply (Rounds.wp_wait_rest_token 𝒱₀ ER (rd m) (c : Thread nD τ) none (κ := K (c, (.rdy, g)))
      (wpE_semWait_eq 𝒱₀ (c : Thread nD τ) none Set.univ) (Set.mem_univ _) () (O := ORv c l) (W := W) (R := 0) (m := 0) (T := ∅)
      ((Nat.zero_add 1).trans (expect_cell m c (.rdy, g)).symm)) $$ [Hc HO Hat]
  · isplitr; · iapply (inv_at m K (c, (.rdy, g))); iexact HR
    isplitl [Hc]; · iexact Hc
    isplitl [HO]; · iexact HO
    isplitr; · iapply (mayWait_rdy c g l); iexact Hlev
    iexact Hat
  iintro ⟨HO, Hat, -, Hpay⟩
  ihave Hp := (Entails.of_eq (show bigSep ((rd (F := F) m).duties ((c : Thread nD τ), .reg (rdyS g)) 0 \ ∅)
      (fun d => (rd (F := F) m).payload ((c : Thread nD τ), .reg (rdyS g)) 0 d) = pay m c (.rdy, g) from rest_cell m c (.rdy, g))) $$ Hpay
  ihave Hp := (Entails.of_eq (pay_rdy m c g)) $$ Hp
  icases Hp with ⟨Hs, -⟩
  imod (Rounds.cell_close ER (rd m) (Set.mem_univ (K (c, (.rdy, g)))) (fun h => h) (R := 0 + 1) (duties_later m (rdyC c g))) $$ [Hat] with Hz
  · isplitr; · iapply (inv_at m K (c, (.rdy, g))); iexact HR
    iexact Hat
  iapply Hk
  isplitl [HO]; · iexists _; iexact HO
  isplitl [Hz]; · iexact Hz
  iexact Hs

/-- Sending a partner its block of rows, into its slot: the credit for the block's return comes back. -/
theorem sendStep (g : Fin 7) (l : List (Fin 7)) {n : Dev nD} (hn : n = peer c g) {sS sV : DmaSem sig} (hS : sS = sndS (rv g)) (hV : sV = rcvS (rv g))
    {src dst : Memref sig .tc .vmem S512x512 .bf16} (hsr : src = blkM (peer c g)) (hds : dst = slotM (rv g))
    {hsc : (dst : Memref sig (Dev.tc n : Thread nD τ).2.kind .vmem S512x512 .bf16).view.ref.isScScratch = false}
    {hsrc : src.view.WordExact} {hdst : dst.view.WordExact}
    {hsem : DmaTarget.Typed .vmem (.dma sV) (.remote (Dev.tc n : Thread nD τ) (dst : Memref sig .tc .vmem S512x512 .bf16) (.dma sS) hsc)}
    {α : Type} {Q : α → sProp 𝕄} {k : PUnit → Prog (TpuEff nD τ sig (Elt F) Λ₀ .tc) α} :
    iprop(records m K ∗ ow c (ORv c (g :: l)) ∗ blkPts m c (peer c g) ∗ (∃ f, slotPts (peer c g) (rv g) f)
        ∗ dutyTok ER (sndC c (rv g)) 0 () ∗ dutyTok ER (rcvC (peer c g) (rv g)) 0 ())
      ⊢ iprop(((ow c (ORv c l) ∗ cred (tallyAt (sndC c (rv g)) () N))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sV) hsrc hdst hsem) k) Q) := by
  subst hn hS hV hsr hds
  unfold ow blkPts blkAt slotPts
  iintro ⟨#HR, ⟨%W, HO⟩, Hb, ⟨%fd, Hs⟩, HtS, HtV⟩ Hk
  iapply (Rounds.wp_send_pointsTo 𝒱₀ ER (rd m) (c : Thread nD τ) none (κ₁ := K (c, (.snd, rv g))) (κ₂ := K (peer c g, (.rcv, rv g)))
    (r₁ := 0) (r₂ := 0) (d₁ := ()) (d₂ := ()) (q := fullShare) (fs := xb m c) (fd := fd) (mem_duties m c (.snd, rv g)) (mem_duties m (peer c g) (.rcv, rv g))
    () () N rfl (amount_cell m c (.snd, rv g)) (amount_cell m (peer c g) (.rcv, rv g)) (ORv c l) rfl (W := W)
    (by
      refine BIBase.Entails.trans ?_ (Entails.of_eq (payload_cell m c (.snd, rv g)).symm)
      rw [pay_snd]; exact BI.Entails.refl _)
    (by
      refine BIBase.Entails.trans ?_ (Entails.of_eq (payload_cell m (peer c g) (.rcv, rv g)).symm)
      rw [pay_rcv]
      iintro H; iexists fd; rw [pay_rcv_flip]; unfold slotPts; iexact H)) $$ [HO Hb Hs HtS HtV]
  · isplitr; · iapply (inv_at m K (c, (.snd, rv g))); iexact HR
    isplitr; · iapply (inv_at m K (peer c g, (.rcv, rv g))); iexact HR
    isplitl [Hb]; · iexact Hb
    isplitl [Hs]; · iexact Hs
    isplitl [HO]; · iexact HO
    isplitl [HtS]; · iexact HtS
    isplitr; · iapply (reached_at m K (c, (.snd, rv g))); iexact HR
    isplitl [HtV]; · iexact HtV
    iapply (reached_at m K (peer c g, (.rcv, rv g))); iexact HR
  iintro ⟨Hc, HO⟩
  iapply Hk
  isplitl [HO]; · iexists W; iexact HO
  iexact Hc

/-- Waiting, owing nothing, for one of the two kinds of transfer cell: its payload comes back and it closes. -/
theorem dmaWait (k0 : Kd × Fin 7) (hk0 : amt k0.1 = N) {q : DmaSem sig} (hq : SemLoc.dma q = semOf k0)
    {src dst : Memref sig .tc .vmem S512x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(records m K ∗ ow c 0 ∗ cred (tallyAt (kcell (c, k0)) () N) ∗ atPos ER (kcell (c, k0)) 0 ∅ 0)
      ⊢ iprop(((ow c 0 ∗ semVal (kcell (c, k0)) 0 ∗ pay m c k0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  have hg : kcell (c, k0) = ((c : Thread nD τ), SemLoc.dma q) := by rw [hq]
  have hE : (rd (F := F) m).expect ((c : Thread nD τ), SemLoc.dma q) 0 = N := by rw [← hg, expect_cell, hk0]
  have hP := rest_cell (F := F) m c k0
  rw [hg] at hP
  unfold ow
  rw [hg]
  iintro ⟨#HR, ⟨%W, HO⟩, Hc, Hat⟩ Hk
  ihave #HI := (inv_at m K (c, k0)) $$ HR
  rw [hg]
  iapply (Rounds.wp_wait_rest_token 𝒱₀ ER (rd m) (c : Thread nD τ) none (κ := K (c, k0))
      (wpE_waitDma2_eq 𝒱₀ (c : Thread nD τ) none Set.univ) (Set.mem_univ _) () (O := 0) (W := W) (R := 0) (m := 0) (T := ∅)
      (by rw [Nat.zero_add, hN, hE])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq hP) $$ Hpay
  imod (Rounds.cell_close ER (rd m) (Set.mem_univ (K (c, k0))) (fun h => h) (R := 0 + 1) (duties_later m ((c : Thread nD τ), SemLoc.dma q))) $$ [Hat] with Hz
  · isplitr; · iexact HI
    iexact Hat
  iapply Hk
  isplitl [HO]; · iexists _; iexact HO
  isplitl [Hz]; · iexact Hz
  iexact Hp

/-- Waiting for slot `s`'s block and adding its product to the sum: the slot stays with the device. -/
theorem recvStep (s : Fin 7) (P : Vec F S1x512x512 .bf16 → Vec F S512x2048 .f32 → Vec F S512x2048 .f32 → Vec F S512x2048 .f32) (hP : P = addS s)
    {q : DmaSem sig} (hq : q = rcvS s)
    {src dst : Memref sig .tc .vmem S512x512 .bf16} {hsrc : src.view.WordExact} {hdst : dst.view.WordExact} (hN : dst.view.dmaCredit = N)
    {off : Fin 2 → ℕ} {hoff : ∀ a, off a + S512x2048.size a ≤ S4096x2048.size a} (ho : off = ![512 * (peer c s).val, 0])
    {h1 : rM.view.LoadsAt (slotR s).toLoadRect} {h2 : wM.view.LoadsAt (Rect.unit (s := S4096x2048) off S512x2048.size hoff).toLoadRect}
    {h3 h4 : oM.view.LoadsAt oR.toLoadRect} {h5 : (oM.access oR).Stores Finset.univ} {h6 : (Finset.univ : Finset oR.shape.Idx) = Finset.univ ∨ ∀ a, oR.stride a = 1}
    (o : Vec F S512x2048 .f32)
    {α : Type} {Q : α → sProp 𝕄} {k : PUnit → Prog (TpuEff nD τ sig (Elt F) Λ₀ .tc) α} :
    iprop(records m K ∗ ow c 0 ∗ cred (tallyAt (rcvC c s) () N) ∗ atPos ER (rcvC c s) 0 ∅ 0
        ∗ (((c : Thread nD τ).loc cc0_scratch2) ↦{fullShare} wAt m c) ∗ (((c : Thread nD τ).loc cc0_stg0_0) ↦{fullShare} o))
      ⊢ iprop(((ow c 0 ∗ semVal (rcvC c s) 0 ∗ (∃ f, slotPts c s f)
              ∗ (((c : Thread nD τ).loc cc0_scratch2) ↦{fullShare} wAt m c) ∗ (((c : Thread nD τ).loc cc0_stg0_0) ↦{fullShare} accS m c s o))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q src dst hsrc hdst) fun _ => .op (.load rM (slotR s).toLoadRect h1) fun v1 =>
                .op (.load wM (Rect.unit (s := S4096x2048) off S512x2048.size hoff).toLoadRect h2) fun v2 =>
                .op (.load oM oR.toLoadRect h3) fun v3 => .op (.load oM oR.toLoadRect h4) fun _ =>
                .op (.store oM oR (P v1 v2 v3) Finset.univ h5 h6) k) Q) := by
  subst hP hq ho
  iintro ⟨#HR, HO, Hc, Hat, Hw, Ho⟩ Hk
  iapply (dmaWait m K c (.rcv, s) rfl rfl hN) $$ [HO Hc Hat]
  · isplitr; · iexact HR
    isplitl [HO]; · iexact HO
    isplitl [Hc] <;> iassumption
  iintro ⟨HO, Hz, Hp⟩
  ihave Hp := (Entails.of_eq (pay_rcv m c s)) $$ Hp
  icases Hp with ⟨%f, Hs⟩
  ihave Hs := (Entails.of_eq (slotPts_eq c s (landed m c s f))) $$ Hs
  iapply (wp_load 𝒱₀ (c : Thread nD τ) none Set.univ (m := rM) (S := (slotR s).set) (q := fullShare) (f := landed m c s f) (setOn_slot s)) $$ Hs; iintro Hs
  rw [read_slot]
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := oR) (Mk := Finset.univ) (Finset.subset_univ _)) $$ Ho; iintro Ho
  rw [write_out, read_out]
  iapply Hk
  isplitl [HO]; · iexact HO
  isplitl [Hz]; · iexact Hz
  isplitl [Hs]; · iexists _; iapply (Entails.of_eq (slotPts_eq c s (landed m c s f)).symm); iexact Hs
  isplitl [Hw]; · iexact Hw
  iexact Ho

end Moves

end Cert.Gemm

end
-- ==== Proof.Local.lean ====
/- The moves a device makes alone: a unit to itself on the barrier and the wait for it, and the two copies of its operands out of
   main memory. -/
module

public import proofs.«01_k».proof.Proof.Steps
public import Idealize.ShloMosaic.Lib.Ring

@[expose] public section

noncomputable section

namespace Cert.Gemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ UU ℕ

/-- The counters of the copies within a device. -/
abbrev EC : UEmb Counters (MT nD τ sig Unit (Elt F) ℕ UU ℕ) := countersEmb (U := UU)

variable (m : (ℓ : Loc nD τ sig) → Buf (Elt F) ℓ) (c : Dev nD)

/-- A unit to oneself on the barrier, and the wait that takes it back. -/
theorem selfStep (l : List (Fin 7)) {n : Dev nD} (hn : n = c) {a b : Int} (ha : a = ((1 : ℕ) : Int)) (hb : b = ((1 : ℕ) : Int))
    {α : Type} {Q : α → sProp 𝕄} {k : PUnit → Prog (TpuEff nD τ sig (Elt F) Λ₀ .tc) α} :
    iprop(levAts L lv ∗ ow c (ORd c l) ∗ semVal ((c : Thread nD τ), SemLoc.reg barS) 0)
      ⊢ iprop(((ow c (ORd c l) ∗ semVal ((c : Thread nD τ), SemLoc.reg barS) 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS a) fun _ => .op (.semWait barS b) k) Q) := by
  subst hn ha hb
  unfold ow
  iintro ⟨#Hlev, ⟨%W, HO⟩, Hv⟩ Hk
  iapply (wp_signalLocal EC 𝒱₀ (n : Thread nD τ) none () rfl) $$ Hv
  iintro Hs
  iapply (wp_semWaitLocalO EC 𝒱₀ (n : Thread nD τ) none () Nat.one_pos (O := ORd n l) (W := W)) $$ [Hs HO]
  · isplitl [Hs]; · iexact Hs
    isplitl [HO]; · iexact HO
    iapply (mayWait_low n (.reg barS) (by decide) l); iexact Hlev
  iintro ⟨Hv, HO⟩
  iapply Hk
  isplitl [HO]; · iexists _; iexact HO
  iexact Hv

def Nx : ℕ := xM.view.dmaCredit
def Nw : ℕ := wM.view.dmaCredit

/-- The copy of the operand under way. -/
def xFlight : sProp 𝕄 :=
  iprop(∃ fd : Buf (Elt F) (xM.view.loc (c : Thread nD τ)), Flight EC (c : Thread nD τ) (.dma xS) () Nx
    iprop((xM.view.loc (c : Thread nD τ) ↦[Finset.univ]{fullShare} (xM.view.write (Elt F) fd (xHM.view.read (Elt F) (xAt m c)) Finset.univ))
      ∗ (xHM.view.loc (c : Thread nD τ) ↦[xHM.view.set]{fullShare} xAt m c)))
/-- The copy of the weights under way. -/
def wFlight : sProp 𝕄 :=
  iprop(∃ fd : Buf (Elt F) (wM.view.loc (c : Thread nD τ)), Flight EC (c : Thread nD τ) (.dma wS) () Nw
    iprop((wM.view.loc (c : Thread nD τ) ↦[Finset.univ]{fullShare} (wM.view.write (Elt F) fd (wHM.view.read (Elt F) (wAt m c)) Finset.univ))
      ∗ (wHM.view.loc (c : Thread nD τ) ↦[wHM.view.set]{fullShare} wAt m c)))

/-- The operand's copy out of main memory is issued. -/
theorem xStart {q : DmaSem sig} (hq : q = xS) {hsrc : xHM.view.WordExact} {hdst : xM.view.WordExact} {hsem : (DmaTarget.here (nD := nD) (τ := τ) (p := .tc) xM).Typed .hbm (.dma q)}
    {α : Type} {Q : α → sProp 𝕄} {k : PUnit → Prog (TpuEff nD τ sig (Elt F) Λ₀ .tc) α} :
    iprop((((c : Thread nD τ).loc main_arg0) ↦{fullShare} xAt m c) ∗ (∃ f, ((c : Thread nD τ).loc cc0_scratch0) ↦{fullShare} f)
        ∗ semVal ((c : Thread nD τ), SemLoc.dma xS) 0)
      ⊢ iprop((xFlight m c -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma xHM (.here xM) (.dma q) hsrc hdst hsem) k) Q) := by
  subst hq
  iintro ⟨Hs, ⟨%f, Hd⟩, Hv⟩ Hk
  iapply (wp_dmaLocal EC 𝒱₀ (c : Thread nD τ) none (src := xHM) (dst := xM) (q := fullShare) (fs := xAt m c) (fd := f) (Sd := Finset.univ) () Nx rfl
    (View.dmaCredit_pos _ (by decide)) (Finset.subset_univ _)) $$ [Hs Hd Hv]
  · isplitl [Hs]; · rw [show xHM.view.set = Finset.univ from View.set_whole _]; iexact Hs
    isplitl [Hd]; · iexact Hd
    iexact Hv
  iintro Hf
  iapply Hk
  unfold xFlight
  iexists f
  iexact Hf

/-- The weights' copy out of main memory is issued. -/
theorem wStart {q : DmaSem sig} (hq : q = wS) {hsrc : wHM.view.WordExact} {hdst : wM.view.WordExact} {hsem : (DmaTarget.here (nD := nD) (τ := τ) (p := .tc) wM).Typed .hbm (.dma q)}
    {α : Type} {Q : α → sProp 𝕄} {k : PUnit → Prog (TpuEff nD τ sig (Elt F) Λ₀ .tc) α} :
    iprop((((c : Thread nD τ).loc main_arg1) ↦{fullShare} wAt m c) ∗ (∃ f, ((c : Thread nD τ).loc cc0_scratch2) ↦{fullShare} f)
        ∗ semVal ((c : Thread nD τ), SemLoc.dma wS) 0)
      ⊢ iprop((wFlight m c -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma wHM (.here wM) (.dma q) hsrc hdst hsem) k) Q) := by
  subst hq
  iintro ⟨Hs, ⟨%f, Hd⟩, Hv⟩ Hk
  iapply (wp_dmaLocal EC 𝒱₀ (c : Thread nD τ) none (src := wHM) (dst := wM) (q := fullShare) (fs := wAt m c) (fd := f) (Sd := Finset.univ) () Nw rfl
    (View.dmaCredit_pos _ (by decide)) (Finset.subset_univ _)) $$ [Hs Hd Hv]
  · isplitl [Hs]; · rw [show wHM.view.set = Finset.univ from View.set_whole _]; iexact Hs
    isplitl [Hd]; · iexact Hd
    iexact Hv
  iintro Hf
  iapply Hk
  unfold wFlight
  iexists f
  iexact Hf

/-- The operand has arrived. -/
theorem xWait (l : List (Fin 7)) {q : DmaSem sig} (hq : q = xS) {hsrc : xHM.view.WordExact} {hdst : xM.view.WordExact}
    {α : Type} {Q : α → sProp 𝕄} {k : PUnit → Prog (TpuEff nD τ sig (Elt F) Λ₀ .tc) α} :
    iprop(levAts L lv ∗ ow c (ORd c l) ∗ xFlight m c)
      ⊢ iprop(((ow c (ORd c l) ∗ semVal ((c : Thread nD τ), SemLoc.dma xS) 0 ∗ (((c : Thread nD τ).loc main_arg0) ↦{fullShare} xAt m c)
              ∗ (((c : Thread nD τ).loc cc0_scratch0) ↦{fullShare} xAt m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q xHM xM hsrc hdst) k) Q) := by
  subst hq
  unfold ow xFlight
  iintro ⟨#Hlev, ⟨%W, HO⟩, ⟨%fd, Hf⟩⟩ Hk
  iapply (wp_waitLocalO EC 𝒱₀ (c : Thread nD τ) none () (N := Nx) rfl (O := ORd c l) (W := W)) $$ [Hf HO]
  · isplitl [Hf]; · iexact Hf
    isplitl [HO]; · iexact HO
    iapply (mayWait_low c (.dma xS) (by decide) l); iexact Hlev
  rw [show xM.view.write (Elt F) fd (xHM.view.read (Elt F) (xAt m c)) Finset.univ = xAt m c from View.write_whole_univ _ _ _,
    show xHM.view.set = Finset.univ from View.set_whole _]
  iintro ⟨⟨Hd, Hs⟩, Hv, HO⟩
  iapply Hk
  isplitl [HO]; · iexists _; iexact HO
  isplitl [Hv]; · iexact Hv
  isplitl [Hs]; · iexact Hs
  iexact Hd

/-- The weights have arrived. -/
theorem wWait {q : DmaSem sig} (hq : q = wS) {hsrc : wHM.view.WordExact} {hdst : wM.view.WordExact}
    {α : Type} {Q : α → sProp 𝕄} {k : PUnit → Prog (TpuEff nD τ sig (Elt F) Λ₀ .tc) α} :
    iprop(ow c 0 ∗ wFlight m c)
      ⊢ iprop(((ow c 0 ∗ semVal ((c : Thread nD τ), SemLoc.dma wS) 0 ∗ (((c : Thread nD τ).loc main_arg1) ↦{fullShare} wAt m c)
              ∗ (((c : Thread nD τ).loc cc0_scratch2) ↦{fullShare} wAt m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q wHM wM hsrc hdst) k) Q) := by
  subst hq
  unfold ow wFlight
  iintro ⟨⟨%W, HO⟩, ⟨%fd, Hf⟩⟩ Hk
  iapply (wp_waitLocal EC 𝒱₀ (c : Thread nD τ) none () (N := Nw) rfl (W := W)) $$ [Hf HO]
  · isplitl [Hf] <;> iassumption
  rw [show wM.view.write (Elt F) fd (wHM.view.read (Elt F) (wAt m c)) Finset.univ = wAt m c from View.write_whole_univ _ _ _,
    show wHM.view.set = Finset.univ from View.set_whole _]
  iintro ⟨⟨Hd, Hs⟩, Hv, HO⟩
  iapply Hk
  isplitl [HO]; · iexists _; iexact HO
  isplitl [Hv]; · iexact Hv
  isplitl [Hs]; · iexact Hs
  iexact Hd

/-! ## The landing buffer and the cast operand in pieces -/

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
theorem bigSep_devs (Φ : Dev nD → sProp 𝕄) : bigSep Finset.univ Φ
    = iprop(Φ c ∗ Φ (peer c 0) ∗ Φ (peer c 1) ∗ Φ (peer c 2) ∗ Φ (peer c 3) ∗ Φ (peer c 4) ∗ Φ (peer c 5) ∗ Φ (peer c 6)) :=
  bigSep_univ_eq_bigSepL [c, peer c 0, peer c 1, peer c 2, peer c 3, peer c 4, peer c 5, peer c 6] (devs_list c) (devs_nodup c) Φ

omit [FloatOps F] in
theorem slot_any (s : Fin 7) (f : Buf (Elt F) ((c : Thread nD τ).loc cc0_scratch3)) :
    (((c : Thread nD τ).loc cc0_scratch3) ↦[(slotR s).set]{fullShare} f : sProp 𝕄) ⊢ iprop(∃ f, slotPts (F := F) c s f) := by
  iintro H; iexists f; iapply (Entails.of_eq (slotPts_eq c s f).symm); iexact H
omit [FloatOps F] in
theorem slot_some (s : Fin 7) :
    iprop(∃ f, slotPts (F := F) c s f) ⊢ iprop(∃ f : Buf (Elt F) ((c : Thread nD τ).loc cc0_scratch3), ((c : Thread nD τ).loc cc0_scratch3) ↦[(slotR s).set]{fullShare} f) := by
  iintro ⟨%f, H⟩; iexists f; iapply (Entails.of_eq (slotPts_eq c s f)); iexact H

omit [FloatOps F] in
/-- The landing buffer is its seven slots. -/
theorem slots_split (f : Buf (Elt F) ((c : Thread nD τ).loc cc0_scratch3)) :
    (((c : Thread nD τ).loc cc0_scratch3) ↦{fullShare} f : sProp 𝕄) ⊢ (bigSep Finset.univ fun s : Fin 7 => iprop(∃ f, slotPts (F := F) c s f)) :=
  (Entails.of_eq (Ring.pointsTo_blocks (ℓ := (c : Thread nD τ).loc cc0_scratch3) (fun s : Fin 7 => (slotR s).set) (fun s s' h => slot_disj s s' h) slot_cover f)).trans
    (bigSep_mono fun s _ => slot_any c s f)

omit [FloatOps F] in
/-- The seven slots, at whatever each holds, are the landing buffer. -/
theorem slots_join (f₀ : Buf (Elt F) ((c : Thread nD τ).loc cc0_scratch3)) :
    (bigSep Finset.univ fun s : Fin 7 => iprop(∃ f, slotPts (F := F) c s f))
      ⊢ iprop(∃ f : Buf (Elt F) ((c : Thread nD τ).loc cc0_scratch3), ((c : Thread nD τ).loc cc0_scratch3) ↦{fullShare} f) :=
  (bigSep_mono fun s _ => slot_some c s).trans
    (Ring.pointsTo_blocks_join_exists (ℓ := (c : Thread nD τ).loc cc0_scratch3) (fun s : Fin 7 => (slotR s).set) (fun s s' h => slot_disj s s' h) slot_cover f₀)

/-- The cast operand is its eight blocks of rows. -/
theorem blks_eq : (((c : Thread nD τ).loc cc0_scratch1) ↦{fullShare} xb m c : sProp 𝕄) = bigSep Finset.univ fun b : Dev nD => blkPts m c b := by
  refine (Ring.pointsTo_blocks (ℓ := (c : Thread nD τ).loc cc0_scratch1) (fun b : Dev nD => (blkR b).set) (fun b b' h => blk_disj b b' h) blk_cover (xb m c)).trans ?_
  exact bigSep_congr fun b _ => (blkPts_eq m c b).symm

end Cert.Gemm

end
-- ==== Proof.Body.lean ====
/- The kernel's body once, at a symbolic device: from what a device starts with to its block of the result in its staging buffer,
   every buffer and every semaphore back. -/
module

public import proofs.«01_k».proof.Proof.Local

@[expose] public section

noncomputable section

namespace Cert.Gemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Two moves more: the cast, and the device's own block -/

abbrev xR : Rect S4096x512 := Rect.unit (s := S4096x512) ![0, 0] S4096x512.size inb_S4096x512_S4096x512_0_0
theorem read_x (f : (cc0_scratch0 : Ref sig .tc).ty.Contents (Elt F)) : xM.view.readAt (Elt F) xR.toLoadRect f = f :=
  Memref.readAt_unit_zero (Elt F) cc0_scratch0 hz _ _
theorem write_b (f w : (cc0_scratch1 : Ref sig .tc).ty.Contents (Elt F)) :
    (bM.access xR : View sig .tc _ _ _).write (Elt F) f w Finset.univ = w :=
  Memref.write_access_unit_zero_univ (Elt F) cc0_scratch1 hz _ f w

/-- The operand loaded whole, cast and stored. -/
theorem castStep (c : Dev nD) {h1 : xM.view.LoadsAt xR.toLoadRect} {h2 : bM.view.LoadsAt xR.toLoadRect}
    {h3 : (bM.access xR).Stores Finset.univ} {h4 : (Finset.univ : Finset xR.shape.Idx) = Finset.univ ∨ ∀ a, xR.stride a = 1}
    {α : Type} {Q : α → sProp 𝕄} {k : PUnit → Prog (TpuEff nD τ sig (Elt F) Λ₀ .tc) α} :
    iprop((((c : Thread nD τ).loc cc0_scratch0) ↦{fullShare} xAt m c) ∗ (∃ f, ((c : Thread nD τ).loc cc0_scratch1) ↦{fullShare} f))
      ⊢ iprop((((((c : Thread nD τ).loc cc0_scratch0) ↦{fullShare} xAt m c) ∗ (((c : Thread nD τ).loc cc0_scratch1) ↦{fullShare} xb m c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load xM xR.toLoadRect h1) fun v1 => .op (.load bM xR.toLoadRect h2) fun _ =>
                .op (.store bM xR (k0_pay1 v1) Finset.univ h3 h4) k) Q) := by
  iintro ⟨Hx, ⟨%f, Hb⟩⟩ Hk
  iapply (wp_load 𝒱₀ (c : Thread nD τ) none Set.univ (m := xM) (Finset.subset_univ _)) $$ Hx; iintro Hx
  iapply (wp_load 𝒱₀ (c : Thread nD τ) none Set.univ (m := bM) (Finset.subset_univ _)) $$ Hb; iintro Hb
  iapply (wp_store 𝒱₀ (c : Thread nD τ) none Set.univ (m := bM) (r := xR) (Mk := Finset.univ) (Finset.subset_univ _)) $$ Hb; iintro Hb
  rw [write_b, read_x]
  iapply Hk
  isplitl [Hx]; · iexact Hx
  iexact Hb

theorem setOn_blk (c : Dev nD) : bM.view.setOn (blkR c).toLoadRect.set ⊆ (blkR c).set :=
  ((View.set_slice bM.view (blkR c)).symm.trans (View.set_slice_whole cc0_scratch1 (blkR c))).subset

/-- The device's own block times its rows of weights starts the sum. -/
theorem ownStep (c : Dev nD) {o3 o4 : Fin 2 → ℕ} (e3 : o3 = ![512 * c.val, 0]) (e4 : o4 = ![512 * c.val, 0])
    {b3 : ∀ a, o3 a + S512x512.size a ≤ S4096x512.size a} {b4 : ∀ a, o4 a + S512x2048.size a ≤ S4096x2048.size a}
    {h1 : bM.view.LoadsAt (Rect.unit (s := S4096x512) o3 S512x512.size b3).toLoadRect}
    {h2 : wM.view.LoadsAt (Rect.unit (s := S4096x2048) o4 S512x2048.size b4).toLoadRect}
    {h3 : oM.view.LoadsAt oR.toLoadRect} {h5 : (oM.access oR).Stores Finset.univ} {h6 : (Finset.univ : Finset oR.shape.Idx) = Finset.univ ∨ ∀ a, oR.stride a = 1}
    {α : Type} {Q : α → sProp 𝕄} {k : PUnit → Prog (TpuEff nD τ sig (Elt F) Λ₀ .tc) α} :
    iprop(blkPts m c c ∗ (((c : Thread nD τ).loc cc0_scratch2) ↦{fullShare} wAt m c) ∗ (∃ f, ((c : Thread nD τ).loc cc0_stg0_0) ↦{fullShare} f))
      ⊢ iprop(((blkPts m c c ∗ (((c : Thread nD τ).loc cc0_scratch2) ↦{fullShare} wAt m c)
              ∗ (((c : Thread nD τ).loc cc0_stg0_0) ↦{fullShare} k0_pay2 (xblk m c c) (wrow m c c)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load bM (Rect.unit (s := S4096x512) o3 S512x512.size b3).toLoadRect h1) fun v1 =>
                .op (.load wM (Rect.unit (s := S4096x2048) o4 S512x2048.size b4).toLoadRect h2) fun v2 =>
                .op (.load oM oR.toLoadRect h3) fun _ => .op (.store oM oR (k0_pay2 v1 v2) Finset.univ h5 h6) k) Q) := by
  subst e3 e4
  iintro ⟨Hb, Hw, ⟨%f, Ho⟩⟩ Hk
  ihave Hb := (Entails.of_eq (blkPts_eq m c c)) $$ Hb
  iapply (wp_load 𝒱₀ (c : Thread nD τ) none Set.univ (m := bM) (S := (blkR c).set) (q := fullShare) (f := xb m c) (setOn_blk c)) $$ Hb; iintro Hb
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := oR) (Mk := Finset.univ) (Finset.subset_univ _)) $$ Ho; iintro Ho
  rw [write_out]
  iapply Hk
  isplitl [Hb]; · iapply (Entails.of_eq (blkPts_eq m c c).symm); iexact Hb
  isplitl [Hw]; · iexact Hw
  iexact Ho

/-- Waiting for the block sent under slot `s` to have left: the block comes back. -/
theorem drainStep (K : Dev nD × (Kd × Fin 7) → ℕ) (c : Dev nD) (s : Fin 7) {q : DmaSem sig} (hq : q = sndS s) {src : Memref sig .tc .vmem S512x512 .bf16}
    {o : Fin 2 → ℕ} {h : ∀ a, o a + S512x512.size a ≤ S4096x512.size a} {h1}
    {hsrc : src.view.WordExact} {hdst : (bM.slice (Rect.unit (s := S4096x512) o S512x512.size h) h1).view.WordExact}
    {α : Type} {Q : α → sProp 𝕄} {k : PUnit → Prog (TpuEff nD τ sig (Elt F) Λ₀ .tc) α} :
    iprop(records m K ∗ ow c 0 ∗ cred (tallyAt (sndC c s) () N) ∗ atPos ER (sndC c s) 0 ∅ 0)
      ⊢ iprop(((ow c 0 ∗ semVal (sndC c s) 0 ∗ blkPts m c (peer c (rv s))) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q src (bM.slice (Rect.unit (s := S4096x512) o S512x512.size h) h1) hsrc hdst) k) Q) := by
  subst hq
  have hN : (bM.slice (Rect.unit (s := S4096x512) o S512x512.size h) h1).view.dmaCredit = N := Eq.trans (b := (blkM 0).view.dmaCredit) rfl (blk_credit 0)
  iintro H Hk
  iapply (dmaWait m K c (.snd, s) rfl rfl hN) $$ H
  iintro ⟨HO, Hz, Hp⟩
  iapply Hk
  isplitl [HO]; · iexact HO
  isplitl [Hz]; · iexact Hz
  iapply (Entails.of_eq (show pay m c (.snd, s) = blkPts m c (peer c (rv s)) from rfl)); iexact Hp

/-! ## What a device starts and ends with -/

/-- A slot's tokens: to pay the partner's ready and landing cells and the device's own sending cell; the device's place at its own
    three cells; the credit of its ready and landing cells. -/
def linS (c : Dev nD) (s : Fin 7) : sProp 𝕄 :=
  iprop(dutyTok ER (rdyC (peer c s) (rv s)) 0 () ∗ dutyTok ER (rcvC (peer c s) (rv s)) 0 () ∗ dutyTok ER (sndC c s) 0 ()
    ∗ atPos ER (rdyC c s) 0 ∅ 0 ∗ atPos ER (sndC c s) 0 ∅ 0 ∗ atPos ER (rcvC c s) 0 ∅ 0)
def credS (c : Dev nD) (s : Fin 7) : sProp 𝕄 :=
  iprop(cred (tallyAt (rdyC c s) () 1) ∗ cred (tallyAt (rcvC c s) () N))
/-- A slot's three counters, at zero. -/
def zeroS (c : Dev nD) (s : Fin 7) : sProp 𝕄 :=
  iprop(semVal (rdyC c s) 0 ∗ semVal (sndC c s) 0 ∗ semVal (rcvC c s) 0)
/-- The three counters outside the handshake, at zero. -/
def soloS (c : Dev nD) : sProp 𝕄 :=
  iprop(semVal ((c : Thread nD τ), SemLoc.reg barS) 0 ∗ semVal ((c : Thread nD τ), SemLoc.dma xS) 0 ∗ semVal ((c : Thread nD τ), SemLoc.dma wS) 0)
/-- The two operands in main memory. -/
def argPts (c : Dev nD) : sProp 𝕄 :=
  iprop((((c : Thread nD τ).loc main_arg0) ↦{fullShare} xAt m c) ∗ (((c : Thread nD τ).loc main_arg1) ↦{fullShare} wAt m c))
/-- The four scratch buffers, each at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- What a device holds when the kernel ends. -/
def Φ₁ (c : Dev nD) : sProp 𝕄 :=
  iprop((bigSep Finset.univ fun s : Fin 7 => zeroS (F := F) c s) ∗ soloS c ∗ argPts m c ∗ scratch c)

def bodyPre (K : Dev nD × (Kd × Fin 7) → ℕ) (c : Dev nD) : sProp 𝕄 :=
  iprop(records m K ∗ levAts L lv ∗ (bigSep Finset.univ fun s : Fin 7 => linS (F := F) c s) ∗ (bigSep Finset.univ fun s : Fin 7 => credS (F := F) c s)
    ∗ soloS c ∗ argPts m c ∗ scratch c ∗ ow c (O₀ c)
    ∗ (∃ f : Buf (Elt F) ((c : Thread nD τ).loc cc0_stg0_0), ((c : Thread nD τ).loc cc0_stg0_0) ↦{fullShare} f))
def bodyPost (c : Dev nD) : sProp 𝕄 := iprop(Φ₁ m c ∗ ow c 0 ∗ (((c : Thread nD τ).loc cc0_stg0_0) ↦{fullShare} outC m c))

set_option maxHeartbeats 12000000 in
set_option maxRecDepth 20000 in
/-- The body: from a device's start to its end, its block of the result left in the staging buffer. -/
theorem sound_body (K : Dev nD × (Kd × Fin 7) → ℕ) (c : Dev nD) (Kt : PUnit → sProp 𝕄) :
    iprop(bodyPre m K c ∗ (bodyPost m c -∗ Kt ⟨⟩))
      ⊢ wp frame (wpE (defs₀ (F := F)) Variants.none (c : Thread nD τ) none) Set.univ
          (cc0_body (Memref.whole main_arg0) (Memref.isWhole_whole _) (Memref.whole main_arg1) (Memref.isWhole_whole _) (Memref.whole cc0_stg0_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7 cc0_scratch8) Kt := by
  simp only [cc0_body_eq_skeleton]; unfold cc0_body_skel
  simp only [k0_part13_eq_skeleton]; unfold k0_part13_skel
  simp only [Prog.lift, Prog.bind_op, Prog.bind_ret, Prog.pure_eq_ret, Prog.bind_assoc]
  simp only [k0_part1_eq_skeleton]; unfold k0_part1_skel
  simp only [semSignalWord, semWaitWord, Prog.lift, Prog.bind_op, Prog.bind_ret, Prog.pure_eq_ret, Prog.bind_assoc, wp_deviceId]
  simp only [k0_part2_eq_skeleton]; unfold k0_part2_skel
  simp only [semSignalWord, semWaitWord, Prog.lift, Prog.bind_op, Prog.bind_ret, Prog.pure_eq_ret, Prog.bind_assoc, wp_deviceId]
  simp only [k0_part3_eq_skeleton]; unfold k0_part3_skel
  simp only [semSignalWord, semWaitWord, Prog.lift, Prog.bind_op, Prog.bind_ret, Prog.pure_eq_ret, Prog.bind_assoc, wp_deviceId]
  simp only [k0_part4_eq_skeleton]; unfold k0_part4_skel
  simp only [semSignalWord, semWaitWord, Prog.lift, Prog.bind_op, Prog.bind_ret, Prog.pure_eq_ret, Prog.bind_assoc, wp_deviceId]
  simp only [k0_part5_eq_skeleton]; unfold k0_part5_skel
  simp only [semSignalWord, semWaitWord, Prog.lift, Prog.bind_op, Prog.bind_ret, Prog.pure_eq_ret, Prog.bind_assoc, wp_deviceId]
  simp only [k0_part6_eq_skeleton]; unfold k0_part6_skel
  simp only [semSignalWord, semWaitWord, Prog.lift, Prog.bind_op, Prog.bind_ret, Prog.pure_eq_ret, Prog.bind_assoc, wp_deviceId]
  simp only [k0_part7_eq_skeleton]; unfold k0_part7_skel
  simp only [semSignalWord, semWaitWord, Prog.lift, Prog.bind_op, Prog.bind_ret, Prog.pure_eq_ret, Prog.bind_assoc, wp_deviceId]
  simp only [k0_part8_eq_skeleton]; unfold k0_part8_skel
  simp only [semSignalWord, semWaitWord, Prog.lift, Prog.bind_op, Prog.bind_ret, Prog.pure_eq_ret, Prog.bind_assoc, wp_deviceId]
  simp only [k0_part9_eq_skeleton]; unfold k0_part9_skel
  simp only [semSignalWord, semWaitWord, Prog.lift, Prog.bind_op, Prog.bind_ret, Prog.pure_eq_ret, Prog.bind_assoc, wp_deviceId]
  simp only [k0_part10_eq_skeleton]; unfold k0_part10_skel
  simp only [semSignalWord, semWaitWord, Prog.lift, Prog.bind_op, Prog.bind_ret, Prog.pure_eq_ret, Prog.bind_assoc, wp_deviceId]
  simp only [k0_part11_eq_skeleton]; unfold k0_part11_skel
  simp only [semSignalWord, semWaitWord, Prog.lift, Prog.bind_op, Prog.bind_ret, Prog.pure_eq_ret, Prog.bind_assoc, wp_deviceId]
  simp only [k0_part12_eq_skeleton]; unfold k0_part12_skel
  simp only [semSignalWord, semWaitWord, Prog.lift, Prog.bind_op, Prog.bind_ret, Prog.pure_eq_ret, Prog.bind_assoc, wp_deviceId]
  unfold bodyPre bodyPost soloS argPts scratch
  rw [bigSep_fin7, bigSep_fin7]
  unfold linS credS
  iintro ⟨⟨#HR, #Hlev, ⟨⟨HtR0, HtV0, HtS0, HaR0, HaS0, HaV0⟩, ⟨HtR1, HtV1, HtS1, HaR1, HaS1, HaV1⟩, ⟨HtR2, HtV2, HtS2, HaR2, HaS2, HaV2⟩, ⟨HtR3, HtV3, HtS3, HaR3, HaS3, HaV3⟩, ⟨HtR4, HtV4, HtS4, HaR4, HaS4, HaV4⟩, ⟨HtR5, HtV5, HtS5, HaR5, HaS5, HaV5⟩, ⟨HtR6, HtV6, HtS6, HaR6, HaS6, HaV6⟩⟩, ⟨⟨HcR0, HcV0⟩, ⟨HcR1, HcV1⟩, ⟨HcR2, HcV2⟩, ⟨HcR3, HcV3⟩, ⟨HcR4, HcV4⟩, ⟨HcR5, HcV5⟩, ⟨HcR6, HcV6⟩⟩, ⟨Hbar, Hvx, Hvw⟩, ⟨Hax, Haw⟩, ⟨Hx, Hb, Hw, ⟨%f₀, Hr⟩⟩, HO, Ho⟩, Hk⟩
  ihave Hsl := (slots_split c f₀) $$ Hr
  ihave Hsl := (Entails.of_eq (bigSep_fin7 (fun s : Fin 7 => iprop(∃ f, slotPts (F := F) c s f)))) $$ Hsl
  icases Hsl with ⟨Hs0, Hs1, Hs2, Hs3, Hs4, Hs5, Hs6⟩
  -- a unit to itself on the barrier
  iapply (selfStep c all7 (dev1_eq c) rfl rfl) $$ [HO Hbar]
  · isplitr; · iexact Hlev
    isplitl [HO]; · iexact HO
    iexact Hbar
  iintro ⟨HO, Hbar⟩
  -- the two copies out of main memory
  iapply (xStart m c rfl) $$ [Hax Hx Hvx]
  · isplitl [Hax]; · iexact Hax
    isplitl [Hx] <;> iassumption
  iintro Hxf
  iapply (wStart m c rfl) $$ [Haw Hw Hvw]
  · isplitl [Haw]; · iexact Haw
    isplitl [Hw] <;> iassumption
  iintro Hwf
  -- each partner is told that its slot is free
  iapply (signalStep m K c 0 [1, 2, 3, 4, 5, 6] (dev2_eq c) rfl rfl) $$ [HO HtR0 Hs0]
  · isplitr; · iexact HR
    isplitl [HO]; · iexact HO
    isplitl [HtR0] <;> iassumption
  iintro HO
  iapply (signalStep m K c 1 [2, 3, 4, 5, 6] (dev3_eq c) rfl rfl) $$ [HO HtR1 Hs1]
  · isplitr; · iexact HR
    isplitl [HO]; · iexact HO
    isplitl [HtR1] <;> iassumption
  iintro HO
  iapply (signalStep m K c 2 [3, 4, 5, 6] (dev4_eq c) rfl rfl) $$ [HO HtR2 Hs2]
  · isplitr; · iexact HR
    isplitl [HO]; · iexact HO
    isplitl [HtR2] <;> iassumption
  iintro HO
  iapply (signalStep m K c 3 [4, 5, 6] (dev5_eq c) rfl rfl) $$ [HO HtR3 Hs3]
  · isplitr; · iexact HR
    isplitl [HO]; · iexact HO
    isplitl [HtR3] <;> iassumption
  iintro HO
  iapply (signalStep m K c 4 [5, 6] (dev6_eq c) rfl rfl) $$ [HO HtR4 Hs4]
  · isplitr; · iexact HR
    isplitl [HO]; · iexact HO
    isplitl [HtR4] <;> iassumption
  iintro HO
  iapply (signalStep m K c 5 [6] (dev7_eq c) rfl rfl) $$ [HO HtR5 Hs5]
  · isplitr; · iexact HR
    isplitl [HO]; · iexact HO
    isplitl [HtR5] <;> iassumption
  iintro HO
  iapply (signalStep m K c 6 [] (dev8_eq c) rfl rfl) $$ [HO HtR6 Hs6]
  · isplitr; · iexact HR
    isplitl [HO]; · iexact HO
    isplitl [HtR6] <;> iassumption
  iintro HO
  -- the operand arrives and is cast
  iapply (xWait m c [] rfl) $$ [HO Hxf]
  · isplitr; · iexact Hlev
    isplitl [HO] <;> iassumption
  iintro ⟨HO, Hvx, Hax, Hx⟩
  iapply (castStep m c) $$ [Hx Hb]
  · isplitl [Hx] <;> iassumption
  iintro ⟨Hx, Hb⟩
  ihave Hb := (Entails.of_eq (blks_eq m c)) $$ Hb
  ihave Hb := (Entails.of_eq (bigSep_devs c (fun b : Dev nD => blkPts m c b))) $$ Hb
  icases Hb with ⟨Hb, Hb0, Hb1, Hb2, Hb3, Hb4, Hb5, Hb6⟩
  ihave HO := (show ow (F := F) c (ORd c []) ⊢ ow c (ORv c all7) from BI.Entails.refl _) $$ HO
  -- each partner's slot is awaited and its block sent
  iapply (readyStep m K c 0 [0, 1, 2, 3, 4, 5, 6] rfl rfl) $$ [HO HcR0 HaR0]
  · isplitr; · iexact HR
    isplitr; · iexact Hlev
    isplitl [HO]; · iexact HO
    isplitl [HcR0] <;> iassumption
  iintro ⟨HO, HzR0, Hp⟩
  iapply (sendStep m K c 0 [1, 2, 3, 4, 5, 6] (dev9_eq c) rfl rfl (blk_of _ (off1_1 c) _ _) rfl) $$ [HO Hb0 Hp HtS2 HtV0]
  · isplitr; · iexact HR
    isplitl [HO]; · iexact HO
    isplitl [Hb0]; · iexact Hb0
    isplitl [Hp]; · iexact Hp
    isplitl [HtS2]; · iexact HtS2
    iexact HtV0
  iintro ⟨HO, HcS2⟩
  iapply (readyStep m K c 1 [1, 2, 3, 4, 5, 6] rfl rfl) $$ [HO HcR1 HaR1]
  · isplitr; · iexact HR
    isplitr; · iexact Hlev
    isplitl [HO]; · iexact HO
    isplitl [HcR1] <;> iassumption
  iintro ⟨HO, HzR1, Hp⟩
  iapply (sendStep m K c 1 [2, 3, 4, 5, 6] (dev10_eq c) rfl rfl (blk_of _ (off1_2 c) _ _) rfl) $$ [HO Hb1 Hp HtS1 HtV1]
  · isplitr; · iexact HR
    isplitl [HO]; · iexact HO
    isplitl [Hb1]; · iexact Hb1
    isplitl [Hp]; · iexact Hp
    isplitl [HtS1]; · iexact HtS1
    iexact HtV1
  iintro ⟨HO, HcS1⟩
  iapply (readyStep m K c 2 [2, 3, 4, 5, 6] rfl rfl) $$ [HO HcR2 HaR2]
  · isplitr; · iexact HR
    isplitr; · iexact Hlev
    isplitl [HO]; · iexact HO
    isplitl [HcR2] <;> iassumption
  iintro ⟨HO, HzR2, Hp⟩
  iapply (sendStep m K c 2 [3, 4, 5, 6] (dev11_eq c) rfl rfl (blk_of _ (off1_3 c) _ _) rfl) $$ [HO Hb2 Hp HtS0 HtV2]
  · isplitr; · iexact HR
    isplitl [HO]; · iexact HO
    isplitl [Hb2]; · iexact Hb2
    isplitl [Hp]; · iexact Hp
    isplitl [HtS0]; · iexact HtS0
    iexact HtV2
  iintro ⟨HO, HcS0⟩
  iapply (readyStep m K c 3 [3, 4, 5, 6] rfl rfl) $$ [HO HcR3 HaR3]
  · isplitr; · iexact HR
    isplitr; · iexact Hlev
    isplitl [HO]; · iexact HO
    isplitl [HcR3] <;> iassumption
  iintro ⟨HO, HzR3, Hp⟩
  iapply (sendStep m K c 3 [4, 5, 6] (dev12_eq c) rfl rfl (blk_of _ (off2_0 c) _ _) rfl) $$ [HO Hb3 Hp HtS3 HtV3]
  · isplitr; · iexact HR
    isplitl [HO]; · iexact HO
    isplitl [Hb3]; · iexact Hb3
    isplitl [Hp]; · iexact Hp
    isplitl [HtS3]; · iexact HtS3
    iexact HtV3
  iintro ⟨HO, HcS3⟩
  iapply (readyStep m K c 4 [4, 5, 6] rfl rfl) $$ [HO HcR4 HaR4]
  · isplitr; · iexact HR
    isplitr; · iexact Hlev
    isplitl [HO]; · iexact HO
    isplitl [HcR4] <;> iassumption
  iintro ⟨HO, HzR4, Hp⟩
  iapply (sendStep m K c 4 [5, 6] (dev13_eq c) rfl rfl (blk_of _ (off2_1 c) _ _) rfl) $$ [HO Hb4 Hp HtS6 HtV4]
  · isplitr; · iexact HR
    isplitl [HO]; · iexact HO
    isplitl [Hb4]; · iexact Hb4
    isplitl [Hp]; · iexact Hp
    isplitl [HtS6]; · iexact HtS6
    iexact HtV4
  iintro ⟨HO, HcS6⟩
  iapply (readyStep m K c 5 [5, 6] rfl rfl) $$ [HO HcR5 HaR5]
  · isplitr; · iexact HR
    isplitr; · iexact Hlev
    isplitl [HO]; · iexact HO
    isplitl [HcR5] <;> iassumption
  iintro ⟨HO, HzR5, Hp⟩
  iapply (sendStep m K c 5 [6] (dev14_eq c) rfl rfl (blk_of _ (off2_2 c) _ _) rfl) $$ [HO Hb5 Hp HtS5 HtV5]
  · isplitr; · iexact HR
    isplitl [HO]; · iexact HO
    isplitl [Hb5]; · iexact Hb5
    isplitl [Hp]; · iexact Hp
    isplitl [HtS5]; · iexact HtS5
    iexact HtV5
  iintro ⟨HO, HcS5⟩
  iapply (readyStep m K c 6 [6] rfl rfl) $$ [HO HcR6 HaR6]
  · isplitr; · iexact HR
    isplitr; · iexact Hlev
    isplitl [HO]; · iexact HO
    isplitl [HcR6] <;> iassumption
  iintro ⟨HO, HzR6, Hp⟩
  iapply (sendStep m K c 6 [] (dev15_eq c) rfl rfl (blk_of _ (off2_3 c) _ _) rfl) $$ [HO Hb6 Hp HtS4 HtV6]
  · isplitr; · iexact HR
    isplitl [HO]; · iexact HO
    isplitl [Hb6]; · iexact Hb6
    isplitl [Hp]; · iexact Hp
    isplitl [HtS4]; · iexact HtS4
    iexact HtV6
  iintro ⟨HO, HcS4⟩
  ihave HO := (show ow (F := F) c (ORv c []) ⊢ ow c 0 from BI.Entails.refl _) $$ HO
  -- the weights arrive; the device's own block
  iapply (wWait m c rfl) $$ [HO Hwf]
  · isplitl [HO] <;> iassumption
  iintro ⟨HO, Hvw, Haw, Hw⟩
  iapply (ownStep m c (k0_off3_eq c) (k0_off4_eq c)) $$ [Hb Hw Ho]
  · isplitl [Hb]; · iexact Hb
    isplitl [Hw] <;> iassumption
  iintro ⟨Hb, Hw, Ho⟩
  -- the seven blocks that land
  iapply (recvStep m K c 0 _ rfl rfl (slot_credit 0) (off5_0 c) _) $$ [HO HcV0 HaV0 Hw Ho]
  · isplitr; · iexact HR
    isplitl [HO]; · iexact HO
    isplitl [HcV0]; · iexact HcV0
    isplitl [HaV0]; · iexact HaV0
    isplitl [Hw] <;> iassumption
  iintro ⟨HO, HzV0, Hs0, Hw, Ho⟩
  iapply (recvStep m K c 1 _ rfl rfl (slot_credit 1) (off5_1 c) _) $$ [HO HcV1 HaV1 Hw Ho]
  · isplitr; · iexact HR
    isplitl [HO]; · iexact HO
    isplitl [HcV1]; · iexact HcV1
    isplitl [HaV1]; · iexact HaV1
    isplitl [Hw] <;> iassumption
  iintro ⟨HO, HzV1, Hs1, Hw, Ho⟩
  iapply (recvStep m K c 2 _ rfl rfl (slot_credit 2) (off5_2 c) _) $$ [HO HcV2 HaV2 Hw Ho]
  · isplitr; · iexact HR
    isplitl [HO]; · iexact HO
    isplitl [HcV2]; · iexact HcV2
    isplitl [HaV2]; · iexact HaV2
    isplitl [Hw] <;> iassumption
  iintro ⟨HO, HzV2, Hs2, Hw, Ho⟩
  iapply (recvStep m K c 3 _ rfl rfl (slot_credit 3) (off6_0 c) _) $$ [HO HcV3 HaV3 Hw Ho]
  · isplitr; · iexact HR
    isplitl [HO]; · iexact HO
    isplitl [HcV3]; · iexact HcV3
    isplitl [HaV3]; · iexact HaV3
    isplitl [Hw] <;> iassumption
  iintro ⟨HO, HzV3, Hs3, Hw, Ho⟩
  iapply (recvStep m K c 4 _ rfl rfl (slot_credit 4) (off6_1 c) _) $$ [HO HcV4 HaV4 Hw Ho]
  · isplitr; · iexact HR
    isplitl [HO]; · iexact HO
    isplitl [HcV4]; · iexact HcV4
    isplitl [HaV4]; · iexact HaV4
    isplitl [Hw] <;> iassumption
  iintro ⟨HO, HzV4, Hs4, Hw, Ho⟩
  iapply (recvStep m K c 5 _ rfl rfl (slot_credit 5) (off6_2 c) _) $$ [HO HcV5 HaV5 Hw Ho]
  · isplitr; · iexact HR
    isplitl [HO]; · iexact HO
    isplitl [HcV5]; · iexact HcV5
    isplitl [HaV5]; · iexact HaV5
    isplitl [Hw] <;> iassumption
  iintro ⟨HO, HzV5, Hs5, Hw, Ho⟩
  iapply (recvStep m K c 6 _ rfl rfl (slot_credit 6) (off6_3 c) _) $$ [HO HcV6 HaV6 Hw Ho]
  · isplitr; · iexact HR
    isplitl [HO]; · iexact HO
    isplitl [HcV6]; · iexact HcV6
    isplitl [HaV6]; · iexact HaV6
    isplitl [Hw] <;> iassumption
  iintro ⟨HO, HzV6, Hs6, Hw, Ho⟩
  -- the seven blocks sent have left
  iapply (drainStep m K c 0 rfl) $$ [HO HcS0 HaS0]
  · isplitr; · iexact HR
    isplitl [HO]; · iexact HO
    isplitl [HcS0]; · iexact HcS0
    iexact HaS0
  iintro ⟨HO, HzS0, Hp⟩
  ihave Hb2 := (show blkPts m c (peer c (rv 0)) ⊢ blkPts m c (peer c 2) from BI.Entails.refl _) $$ Hp
  iapply (drainStep m K c 1 rfl) $$ [HO HcS1 HaS1]
  · isplitr; · iexact HR
    isplitl [HO]; · iexact HO
    isplitl [HcS1]; · iexact HcS1
    iexact HaS1
  iintro ⟨HO, HzS1, Hp⟩
  ihave Hb1 := (show blkPts m c (peer c (rv 1)) ⊢ blkPts m c (peer c 1) from BI.Entails.refl _) $$ Hp
  iapply (drainStep m K c 2 rfl) $$ [HO HcS2 HaS2]
  · isplitr; · iexact HR
    isplitl [HO]; · iexact HO
    isplitl [HcS2]; · iexact HcS2
    iexact HaS2
  iintro ⟨HO, HzS2, Hp⟩
  ihave Hb0 := (show blkPts m c (peer c (rv 2)) ⊢ blkPts m c (peer c 0) from BI.Entails.refl _) $$ Hp
  iapply (drainStep m K c 3 rfl) $$ [HO HcS3 HaS3]
  · isplitr; · iexact HR
    isplitl [HO]; · iexact HO
    isplitl [HcS3]; · iexact HcS3
    iexact HaS3
  iintro ⟨HO, HzS3, Hp⟩
  ihave Hb3 := (show blkPts m c (peer c (rv 3)) ⊢ blkPts m c (peer c 3) from BI.Entails.refl _) $$ Hp
  iapply (drainStep m K c 4 rfl) $$ [HO HcS4 HaS4]
  · isplitr; · iexact HR
    isplitl [HO]; · iexact HO
    isplitl [HcS4]; · iexact HcS4
    iexact HaS4
  iintro ⟨HO, HzS4, Hp⟩
  ihave Hb6 := (show blkPts m c (peer c (rv 4)) ⊢ blkPts m c (peer c 6) from BI.Entails.refl _) $$ Hp
  iapply (drainStep m K c 5 rfl) $$ [HO HcS5 HaS5]
  · isplitr; · iexact HR
    isplitl [HO]; · iexact HO
    isplitl [HcS5]; · iexact HcS5
    iexact HaS5
  iintro ⟨HO, HzS5, Hp⟩
  ihave Hb5 := (show blkPts m c (peer c (rv 5)) ⊢ blkPts m c (peer c 5) from BI.Entails.refl _) $$ Hp
  iapply (drainStep m K c 6 rfl) $$ [HO HcS6 HaS6]
  · isplitr; · iexact HR
    isplitl [HO]; · iexact HO
    isplitl [HcS6]; · iexact HcS6
    iexact HaS6
  iintro ⟨HO, HzS6, Hp⟩
  ihave Hb4 := (show blkPts m c (peer c (rv 6)) ⊢ blkPts m c (peer c 4) from BI.Entails.refl _) $$ Hp
  rw [wp_ret]; imodintro
  iapply Hk
  unfold Φ₁ soloS argPts scratch
  rw [bigSep_fin7]
  unfold zeroS
  isplitr [HO Ho]
  · isplitl [HzR0 HzS0 HzV0 HzR1 HzS1 HzV1 HzR2 HzS2 HzV2 HzR3 HzS3 HzV3 HzR4 HzS4 HzV4 HzR5 HzS5 HzV5 HzR6 HzS6 HzV6]
    · isplitl [HzR0 HzS0 HzV0]
      · isplitl [HzR0]; · iexact HzR0
        isplitl [HzS0] <;> iassumption
      isplitl [HzR1 HzS1 HzV1]
      · isplitl [HzR1]; · iexact HzR1
        isplitl [HzS1] <;> iassumption
      isplitl [HzR2 HzS2 HzV2]
      · isplitl [HzR2]; · iexact HzR2
        isplitl [HzS2] <;> iassumption
      isplitl [HzR3 HzS3 HzV3]
      · isplitl [HzR3]; · iexact HzR3
        isplitl [HzS3] <;> iassumption
      isplitl [HzR4 HzS4 HzV4]
      · isplitl [HzR4]; · iexact HzR4
        isplitl [HzS4] <;> iassumption
      isplitl [HzR5 HzS5 HzV5]
      · isplitl [HzR5]; · iexact HzR5
        isplitl [HzS5] <;> iassumption
      isplitl [HzR6]; · iexact HzR6
      isplitl [HzS6] <;> iassumption
    isplitl [Hbar Hvx Hvw]
    · isplitl [Hbar]; · iexact Hbar
      isplitl [Hvx] <;> iassumption
    isplitl [Hax Haw]
    · isplitl [Hax] <;> iassumption
    isplitl [Hx]; · iexists _; iexact Hx
    isplitl [Hb Hb0 Hb1 Hb2 Hb3 Hb4 Hb5 Hb6]
    · iexists (xb m c)
      iapply (Entails.of_eq (blks_eq m c).symm)
      iapply (Entails.of_eq (bigSep_devs c (fun b : Dev nD => blkPts m c b)).symm)
      isplitl [Hb]; · iexact Hb
      isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      iexact Hb6
    isplitl [Hw]; · iexists _; iexact Hw
    iapply (slots_join c f₀)
    iapply (Entails.of_eq (bigSep_fin7 (fun s : Fin 7 => iprop(∃ f, slotPts (F := F) c s f))).symm)
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hs6
  isplitl [HO]; · iexact HO
  iexact Ho

end Cert.Gemm

end
-- ==== Proof.Run.lean ====
/- The run of the eight devices: the kernel's data, what the launch deals out, and what every final state holds. -/
module

public import proofs.«01_k».proof.Proof.Body
public import Idealize.ShloMosaic.Lib.Pipeline.Value
public import Idealize.ShloMosaic.Lib.Pipeline.ValueKit
public import Idealize.ShloMosaic.Lib.Pipeline.CollectiveSegs

@[expose] public section

noncomputable section

namespace Cert.Gemm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's data -/

/-- What the launch makes a device's: the records, its tokens and places, and the counters of its two copies. -/
def G' (c : Dev nD) : sProp 𝕄 :=
  iprop((∃ K, records m K) ∗ (bigSep Finset.univ fun s : Fin 7 => linS (F := F) c s)
    ∗ semVal ((c : Thread nD τ), SemLoc.dma xS) 0 ∗ semVal ((c : Thread nD τ), SemLoc.dma wS) 0)

/-- What a device holds beside its scratch buffers when the kernel starts. -/
def start (c : Dev nD) : sProp 𝕄 :=
  iprop(G' m c ∗ (bigSep Finset.univ fun s : Fin 7 => credS (F := F) c s) ∗ semVal ((c : Thread nD τ), SemLoc.reg barS) 0 ∗ argPts m c ∗ levAts L lv)

def Φ₀ (c : Dev nD) : sProp 𝕄 := iprop(start m c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem bigSep_W (Φ : Fin cfg0.W → sProp 𝕄) : bigSep Finset.univ Φ = Φ (0 : Fin 1) := bigSep_W0 Φ

/-- A staging buffer of device `c` holding `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def obPre (c : Dev nD) : sProp 𝕄 :=
  iprop(Φ₀ m c ∗ (dats m ρ 0 c).owesAt () t0_0.castSucc ∗ (∃ d, stg c cc0_stg0_0 ((dats m ρ 0 c).before (0 : Fin 1) t0_0 d)))
def obPost (c : Dev nD) : sProp 𝕄 :=
  iprop(Φ₁ m c ∗ (dats m ρ 0 c).owesAt () t0_0.succ ∗ stg c cc0_stg0_0 (outC m c))

set_option maxRecDepth 4000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  show obPre m ρ c ⊢ wp frame (wpE (defs₀ (F := F)) 𝒱₀ c none) Set.univ
    (cc0_body (Memref.whole main_arg0) (Memref.isWhole_whole _) (Memref.whole main_arg1) (Memref.isWhole_whole _) (Memref.whole cc0_stg0_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7 cc0_scratch8) (fun _ => obPost m ρ c)
  unfold obPre Φ₀ start G' Dat.owesAt Pipeline.owesWithin stg
  rw [show (dats m ρ 0 c).owed t0_0.castSucc = O₀ c from rfl]
  iintro ⟨⟨⟨⟨⟨%K, HR⟩, Hlin, Hvx, Hvw⟩, Hcr, Hbar, Ha, Hlev⟩, Hscr⟩, ⟨%W, -, HO⟩, ⟨%d, %f, -, Ho⟩⟩
  iapply (sound_body m K c fun _ => obPost m ρ c)
  unfold bodyPre soloS
  isplitl
  · isplitl [HR]; · iexact HR
    isplitl [Hlev]; · iexact Hlev
    isplitl [Hlin]; · iexact Hlin
    isplitl [Hcr]; · iexact Hcr
    isplitl [Hbar Hvx Hvw]
    · isplitl [Hbar]; · iexact Hbar
      isplitl [Hvx] <;> iassumption
    isplitl [Ha]; · iexact Ha
    isplitl [Hscr]; · iexact Hscr
    isplitl [HO]; · unfold ow; iexists W; iexact HO
    iexists f; iexact Ho
  unfold bodyPost obPost ow Dat.owesAt Pipeline.owesWithin stg
  rw [show (dats m ρ 0 c).owed t0_0.succ = 0 from rfl]
  iintro ⟨HΦ, ⟨%W', HO⟩, Ho⟩
  isplitl [HΦ]; · iexact HΦ
  isplitl [HO]
  · iexists W'
    isplitr; · ipureintro; exact fun _ _ => Or.inl trivial
    iexact HO
  iexists _
  isplitr; · (ipureintro; rfl)
  iexact Ho

/-! ## The launch -/

/-- The kernel's own semaphores: the handshake's, and those of the two copies. -/
def osem : (Kd × Fin 7) ⊕ Bool → SemLoc sig
  | .inl k => semOf k | .inr true => .dma xS | .inr false => .dma wS
theorem ownSemFacts : Pipeline.OwnSemFacts cfg0.spec osem := by decide
theorem share_eq (c : Dev nD) (w : Fin cfg0.W) : (dats m ρ 0 c).share w = fullShare := by unfold Dat.share; split <;> rfl

theorem kcell_injective : Function.Injective (kcell : Dev nD × (Kd × Fin 7) → GSem nD τ sig) := by
  rintro ⟨c, k⟩ ⟨c', k'⟩ h
  have h1 : c = c' := congrArg (fun g : GSem nD τ sig => g.1.1) h
  have h2 : k = k' := semOf_injective k k' (congrArg Prod.snd h)
  rw [h1, h2]
def tokOf (ck : Dev nD × (Kd × Fin 7)) : GSem nD τ sig × ℕ × Unit := (kcell ck, 0, ())
theorem tokOf_injective : Function.Injective tokOf := fun a b h => kcell_injective (congrArg Prod.fst h)
def ringCells : Finset (GSem nD τ sig) := Finset.univ.map ⟨kcell, kcell_injective⟩
def ringToks : Finset (GSem nD τ sig × ℕ × Unit) := Finset.univ.map ⟨tokOf, tokOf_injective⟩

def u₀ : UU := (initOf (Pipeline.cells cfgs cellOf_inj) (Pipeline.launchToks cfgs cellOf_inj), (initOf ringCells ringToks, 1))

omit [FloatOps F] in
/-- A product over kinds and slots, kind by kind. -/
theorem bigSep_kd (Φ : Kd × Fin 7 → sProp 𝕄) : bigSep Finset.univ Φ
    = iprop((bigSep Finset.univ fun s => Φ (.rdy, s)) ∗ (bigSep Finset.univ fun s => Φ (.snd, s)) ∗ bigSep Finset.univ fun s => Φ (.rcv, s)) := by
  rw [bigSep_univ_prod]
  exact bigSep_univ_eq_bigSepL [Kd.rdy, .snd, .rcv] (by decide) (by decide) fun k => bigSep Finset.univ fun s : Fin 7 => Φ (k, s)

omit [FloatOps F] in
/-- Something of every device and slot, dealt to the other end of each pair. -/
theorem dealt (Ψ : Dev nD × Fin 7 → sProp 𝕄) : (bigSep Finset.univ fun c => bigSep Finset.univ fun s => Ψ (c, s))
    = bigSep Finset.univ fun c => bigSep Finset.univ fun s => Ψ (peer c s, rv s) := by
  rw [← bigSep_univ_prod Ψ, bigSep_univ_equiv flip Ψ, bigSep_univ_prod]
  rfl

def toks (c : Dev nD) : sProp 𝕄 := bigSep Finset.univ fun k : Kd × Fin 7 => dutyTok ER (kcell (c, k)) 0 ()
def places (c : Dev nD) : sProp 𝕄 := bigSep Finset.univ fun k : Kd × Fin 7 => iprop(atPos ER (kcell (c, k)) 0 ∅ 0 ∗ reached ER (kcell (c, k)) 0)
def G (c : Dev nD) : sProp 𝕄 :=
  iprop((bigSep Finset.univ fun k : Kd × Fin 7 => roundState ER (rd m) (kcell (c, k)) 0) ∗ places c ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Kd × Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (rd m) ringCells ringToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places; simp only [bigSep_sep']
  isplitl [Hst]; · iexact Hst
  isplitl [Hat Hr]
  · isplitl [Hat] <;> iassumption
  iexact Htok

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun k : Kd × Fin 7 => semVal (kcell (c, k)) 0)
        ∗ semVal ((c : Thread nD τ), SemLoc.dma xS) 0 ∗ semVal ((c : Thread nD τ), SemLoc.dma wS) 0) := by
  refine (bigSep_univ_sum (fun k : (Kd × Fin 7) ⊕ Bool => (semVal ((c : Thread nD τ), osem k) 0 : sProp 𝕄))).trans ?_
  rw [bigSep_univ_eq_bigSepL [true, false] (by decide) (by decide) (fun b : Bool => (semVal ((c : Thread nD τ), osem (.inr b)) 0 : sProp 𝕄)),
    bigSepL_cons_cons, bigSepL_singleton]
  rfl

theorem core_alloc (c : Dev nD) :
    iprop(Pipeline.ownSems0 (Ix := Unit) (Name := ℕ) (U := UU) (Lvl := ℕ) (Val := Elt F) (τ := τ) osem c ∗ G m c)
      ⊢ |={Set.univ}=> iprop((bigSep Finset.univ fun k => iprop(∃ κ : ℕ, cellInv ER (rd m) κ (kcell (c, k)))) ∗ places c ∗ toks c
          ∗ semVal ((c : Thread nD τ), SemLoc.dma xS) 0 ∗ semVal ((c : Thread nD τ), SemLoc.dma wS) 0) := by
  unfold G
  rw [ownSems0_eq]
  iintro ⟨⟨Hv, Hx, Hw⟩, Hst, Hat, Htok⟩
  imod (show iprop((bigSep Finset.univ fun k : Kd × Fin 7 => semVal (kcell (c, k)) 0) ∗ bigSep Finset.univ fun k : Kd × Fin 7 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [Hx] <;> iassumption

/-- A device's places at its own cells, slot by slot. -/
def placeS (c : Dev nD) (s : Fin 7) : sProp 𝕄 :=
  iprop(atPos ER (rdyC c s) 0 ∅ 0 ∗ atPos ER (sndC c s) 0 ∅ 0 ∗ atPos ER (rcvC c s) 0 ∅ 0)
/-- The tokens a device pays with, slot by slot. -/
def payTokS (c : Dev nD) (s : Fin 7) : sProp 𝕄 :=
  iprop(dutyTok ER (rdyC (peer c s) (rv s)) 0 () ∗ dutyTok ER (rcvC (peer c s) (rv s)) 0 () ∗ dutyTok ER (sndC c s) 0 ())

omit [FloatOps F] in
theorem linS_intro (c : Dev nD) : iprop((bigSep Finset.univ fun s : Fin 7 => placeS (F := F) c s) ∗ (bigSep Finset.univ fun s : Fin 7 => payTokS (F := F) c s))
    ⊢ bigSep Finset.univ fun s : Fin 7 => linS (F := F) c s := by
  rw [← bigSep_sep']
  refine bigSep_mono fun s _ => ?_
  show iprop(placeS (F := F) c s ∗ payTokS (F := F) c s) ⊢ linS c s
  unfold placeS payTokS linS
  iintro ⟨⟨H1, H2, H3⟩, H4, H5, H6⟩
  isplitl [H4]; · iexact H4
  isplitl [H5]; · iexact H5
  isplitl [H6]; · iexact H6
  isplitl [H1]; · iexact H1
  isplitl [H2] <;> iassumption

omit [FloatOps F] in
/-- The ready and the landing tokens go to the other end of each pair; the sending ones stay. -/
theorem toks_around : (bigSep Finset.univ fun c : Dev nD => (toks c : sProp 𝕄)) ⊢ bigSep Finset.univ fun c : Dev nD => bigSep Finset.univ fun s : Fin 7 => payTokS (F := F) c s := by
  unfold toks payTokS
  simp only [bigSep_kd, bigSep_sep']
  iintro ⟨Hr, Hs, Hv⟩
  ihave Hr := (Entails.of_eq (dealt (F := F) (fun x => dutyTok ER (rdyC x.1 x.2) 0 ()))) $$ Hr
  ihave Hv := (Entails.of_eq (dealt (F := F) (fun x => dutyTok ER (rcvC x.1 x.2) 0 ()))) $$ Hv
  isplitl [Hr]; · iexact Hr
  isplitl [Hv] <;> iassumption

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- Places and records, apart. -/
theorem places_eq : (bigSep Finset.univ fun c : Dev nD => (places c : sProp 𝕄))
    ⊢ iprop((bigSep Finset.univ fun c : Dev nD => bigSep Finset.univ fun s : Fin 7 => placeS (F := F) c s)
        ∗ bigSep Finset.univ fun ck : Dev nD × (Kd × Fin 7) => reached ER (kcell ck) 0) := by
  unfold places placeS
  rw [bigSep_univ_prod (fun ck : Dev nD × (Kd × Fin 7) => (reached ER (kcell ck) 0 : sProp 𝕄))]
  simp only [bigSep_sep']
  iintro ⟨Ha, Hr⟩
  isplitl [Ha]
  · simp only [bigSep_kd, bigSep_sep']
    iexact Ha
  iexact Hr

/-- From every device's invariants, places, tokens and two counters, what each device starts from. -/
theorem regroup :
    (bigSep Finset.univ fun c : Dev nD => iprop((bigSep Finset.univ fun k => iprop(∃ κ : ℕ, cellInv ER (rd m) κ (kcell (c, k)))) ∗ places c ∗ toks c
          ∗ semVal ((c : Thread nD τ), SemLoc.dma xS) 0 ∗ semVal ((c : Thread nD τ), SemLoc.dma wS) 0) : sProp 𝕄)
      ⊢ bigSep Finset.univ (G' m) := by
  rw [bigSep_sep', bigSep_sep', bigSep_sep', ← bigSep_univ_prod (fun ck : Dev nD × (Kd × Fin 7) => iprop(∃ κ : ℕ, cellInv ER (rd m) κ (kcell ck)))]
  iintro ⟨HI, Hat, Htok, Hxw⟩
  ihave Hat := (places_eq (F := F)) $$ Hat
  icases Hat with ⟨Hat, #HR⟩
  ihave HK := (BI.bigSep_exists_pi Finset.univ (fun (ck : Dev nD × (Kd × Fin 7)) (κ : ℕ) => (cellInv ER (rd m) κ (kcell ck) : sProp 𝕄))) $$ HI
  icases HK with ⟨%K, #HI⟩
  ihave Htk := (toks_around (F := F)) $$ Htok
  iapply (bigSep_with_persistent (R := records m K)
    (Φ := fun c : Dev nD => iprop(((bigSep Finset.univ fun s : Fin 7 => placeS (F := F) c s) ∗ (bigSep Finset.univ fun s : Fin 7 => payTokS (F := F) c s))
      ∗ (semVal ((c : Thread nD τ), SemLoc.dma xS) 0 ∗ semVal ((c : Thread nD τ), SemLoc.dma wS) 0))) fun c _ => by
    unfold G'
    iintro ⟨#HR, Hl, Hx, Hw⟩
    isplitr; · iexists K; iexact HR
    isplitl [Hl]; · iapply (linS_intro c); iexact Hl
    isplitl [Hx] <;> iassumption)
  isplitr
  · unfold records; isplitl; · iexact HI
    iexact HR
  · iapply (Entails.of_eq (bigSep_sep' Finset.univ
      (fun c : Dev nD => iprop((bigSep Finset.univ fun s : Fin 7 => placeS (F := F) c s) ∗ (bigSep Finset.univ fun s : Fin 7 => payTokS (F := F) c s)))
      (fun c : Dev nD => iprop(semVal ((c : Thread nD τ), SemLoc.dma xS) 0 ∗ semVal ((c : Thread nD τ), SemLoc.dma wS) 0))).symm)
    isplitl [Hat Htk]
    · iapply (Entails.of_eq (bigSep_sep' Finset.univ (fun c : Dev nD => bigSep Finset.univ fun s : Fin 7 => placeS (F := F) c s)
        (fun c : Dev nD => bigSep Finset.univ fun s : Fin 7 => payTokS (F := F) c s)).symm)
      isplitl [Hat] <;> iassumption
    iexact Hxw

theorem glob : (bigSep Finset.univ fun c => iprop(Pipeline.ownSems0 (Ix := Unit) (Name := ℕ) (U := UU) (Lvl := ℕ) (Val := Elt F) (τ := τ) osem c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- What device `d` owes any cell, spelt out. -/
theorem owed_apply (d : Dev nD) (g : GSem nD τ sig) : O₀ d g ()
    = (∑ s : Fin 7, if g = kcell (peer d s, (.rcv, rv s)) then N else 0) + ∑ s : Fin 7, if g = kcell (peer d s, (.rdy, rv s)) then 1 else 0 := by
  unfold O₀ all7
  simp only [ORd, ORv, all7, Pi.add_apply, Finsupp.add_apply, tallyAt_apply, and_true, Pi.zero_apply, Finsupp.zero_apply, Fin.sum_univ_seven, rcvC, rdyC]
  ac_rfl

/-- Over all devices, a cell is owed by the one device at the other end of its pair. -/
theorem sum_owed (k k' : Kd) (n : ℕ) (c : Dev nD) (s : Fin 7) :
    (∑ d : Dev nD, ∑ s' : Fin 7, if kcell (c, (k, s)) = kcell (peer d s', (k', rv s')) then n else 0) = if k = k' then n else 0 := by
  rw [← Fintype.sum_prod_type' (f := fun (d : Dev nD) (s' : Fin 7) => if kcell (c, (k, s)) = kcell (peer d s', (k', rv s')) then n else 0)]
  rw [show (fun x : Dev nD × Fin 7 => if kcell (c, (k, s)) = kcell (peer x.1 x.2, (k', rv x.2)) then n else 0)
    = fun x => (fun y : Dev nD × Fin 7 => if kcell (c, (k, s)) = kcell (y.1, (k', y.2)) then n else 0) (flip x) from rfl,
    Equiv.sum_comp flip (fun y : Dev nD × Fin 7 => if kcell (c, (k, s)) = kcell (y.1, (k', y.2)) then n else 0)]
  by_cases hk : k = k'
  · subst hk
    rw [if_pos rfl, Finset.sum_eq_single (c, s)]
    · exact if_pos rfl
    · intro y _ hy
      refine if_neg fun h => hy ?_
      have := kcell_injective h
      simp only [Prod.mk.injEq, true_and] at this
      exact Prod.ext this.1.symm this.2.symm
    · exact fun h => absurd (Finset.mem_univ _) h
  · rw [if_neg hk]
    refine Finset.sum_eq_zero fun y _ => if_neg fun h => hk ?_
    have := kcell_injective h
    simp only [Prod.mk.injEq] at this
    exact this.2.1

theorem launch_cell (c : Dev nD) (k : Kd × Fin 7) :
    tallyOn (kcell (c, k)) (launchCredit (Pipeline.owing O₀) 0 (kcell (c, k)))
      = (tallyAt (kcell (c, k)) () ((if k.1 = .rcv then N else 0) + if k.1 = .rdy then 1 else 0) : CellTallies nD τ sig Unit) := by
  unfold tallyAt; refine congrArg _ (Finsupp.ext fun u => ?_); cases u
  rw [Pipeline.launchCredit_owing, Finsupp.single_eq_same, Finset.sum_congr rfl fun d _ => owed_apply d (kcell (c, k)), Finset.sum_add_distrib,
    sum_owed, sum_owed]

omit [FloatOps F] in
theorem creds (c : Dev nD) : (Pipeline.launchCred O₀ c : sProp 𝕄) ⊢ bigSep Finset.univ fun s : Fin 7 => credS (F := F) c s := by
  unfold Pipeline.launchCred
  refine (BI.bigSep_subset (Finset.subset_univ (Finset.univ.map ⟨semOf, fun k k' h => semOf_injective k k' h⟩))).trans ?_
  rw [bigSep_map]
  refine (Entails.of_eq (show _ = bigSep Finset.univ fun k : Kd × Fin 7 => cred (tallyAt (kcell (c, k)) () ((if k.1 = .rcv then N else 0) + if k.1 = .rdy then 1 else 0))
    from bigSep_congr fun k _ => congrArg cred (launch_cell c k))).trans ?_
  rw [bigSep_kd]
  unfold credS
  rw [bigSep_sep']
  iintro ⟨Hr, -, Hv⟩
  isplitl [Hr]
  · iexact Hr
  iexact Hv

/-! ### The theorem's side conditions -/

omit [FloatOps F] in
/-- The barrier semaphore is the one semaphore no kernel owns. -/
theorem unscopedSems0_eq (c : Dev nD) : (unscopedSems0 c : sProp 𝕄) = semVal ((c : Thread nD τ), SemLoc.reg barS) 0 := by
  unfold unscopedSems0; rw [bigSep_eq_bigSepL_of_eq [SemLoc.reg barS] (by decide) (by decide)]; rfl

theorem start_intro (c : Dev nD) :
    iprop(Pipeline.unscopedRestP Pipeline.Prefetch.none cfg0.spec c (fun b => m ((c : Thread nD τ).loc b)) ∗ unscopedSems0 c ∗ levAts L lv
        ∗ Pipeline.launchCred O₀ c ∗ prngReg c (ρ c) ∗ G' m c)
      ⊢ |={Set.univ}=> iprop(start m c ∗ emp) := by
  rw [unscopedSems0_eq]
  iintro ⟨Hargs, Hbar, Hlev, Hcr, -, HG⟩
  ihave Hc := (creds (F := F) c) $$ Hcr
  ihave Ha := (show Pipeline.unscopedRestP Pipeline.Prefetch.none cfg0.spec c (fun b => m ((c : Thread nD τ).loc b)) ⊢ argPts m c from
    Entails.of_eq ((Pipeline.unscopedRestP_none cfg0.spec c _).trans (unscopedRest0_eq c _))) $$ Hargs
  imodintro
  unfold start
  isplitl
  · isplitl [HG]; · iexact HG
    isplitl [Hc]; · iexact Hc
    isplitl [Hbar]; · iexact Hbar
    isplitl [Ha] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

/-- What a device keeps after the kernel: the barrier's counter at zero and its operands. -/
def kept (c : Dev nD) : sProp 𝕄 := iprop(unscopedSems0 c ∗ argPts m c)

theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, scopedRest0_eq, ownSems0_eq, bigSep_kd]
  unfold Φ₁ kept soloS zeroS scratch
  rw [unscopedSems0_eq, bigSep_sep', bigSep_sep']
  iintro ⟨Hz, ⟨Hbar, Hx, Hw⟩, Ha, Hr⟩
  isplitl [Hbar Ha]
  · isplitl [Hbar] <;> iassumption
  isplitl [Hz Hx Hw]
  · isplitl [Hz]; · iexact Hz
    isplitl [Hx] <;> iassumption
  iexact Hr

omit [FloatOps F] in
theorem mayWait_stage (c : Dev nD) (q : DmaSem sig) (hq : lvOf (kdOf (.dma q)) = 0) (O : CellTallies nD τ sig Unit) (hO : O = O₀ c ∨ O = 0) :
    (levAts L lv : sProp 𝕄) ⊢ MayWait (c : Thread nD τ) (.dma q) () O := by
  rcases hO with rfl | rfl
  · exact mayWait_low c (.dma q) hq all7
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The operands read after the run are what they were. -/
theorem args_read (c : Dev nD) (s' : Phys nD τ sig (Elt F)) :
    iprop(argPts m c ∗ SI s') ⊢ iprop(⌜s'.mem.mem ((c : Thread nD τ).loc main_arg0) = m ((c : Thread nD τ).loc main_arg0)
      ∧ s'.mem.mem ((c : Thread nD τ).loc main_arg1) = m ((c : Thread nD τ).loc main_arg1)⌝ ∗ (SI s' : sProp 𝕄)) := by
  unfold argPts
  iintro ⟨⟨H0, H1⟩, HSI⟩
  icombine HSI H0 gives %h0
  icombine HSI H1 gives %h1
  isplitr
  · ipureintro; exact ⟨Buf.eq_of_forall_mem_univ h0, Buf.eq_of_forall_mem_univ h1⟩
  iexact HSI

/-! ### The run -/

/-- The result array ends holding what the device computed: its one block is the whole array. -/
theorem final_o (c : Dev nD) : (dats m ρ 0 c).arrAt 0 cfg0.N = outC m c :=
  (dats m ρ 0 c).arrAt_eq_of_after_last 0 t0_0 (by decide +kernel) (outC m c) fun j => by
    rw [show (dats m ρ 0 c).after 0 t0_0 = outC m c from rfl]
    generalize outC m c = X
    rfl

set_option maxRecDepth 8000 in
/-- On the mesh of eight devices, for any float values, from any memory with zero counters: every weakly fair execution terminates,
    and every final state has each device's result array at the block computed, both operands unchanged and every counter at zero. -/
theorem run_main : θ_run defs (onTc (τ := τ) (main (F := F))) (s₀ m ρ) (fun r =>
    (∀ c : Dev nD, r.2.mem ((c : Thread nD τ).loc main_v1) = outC m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ [HX] with HG
      · iexact HX
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0)
      ∧ s.mem ((c : Thread nD τ).loc main_arg1) = m ((c : Thread nD τ).loc main_arg1))
    (hY := fun c s' => by
      unfold kept
      iintro ⟨⟨Hu, Ha⟩, -, HSI⟩
      ihave H := (args_read m c s') $$ [Ha HSI]
      · isplitl [Ha] <;> iassumption
      icases H with ⟨%ha, HSI⟩
      imod (Pipeline.unscopedSems0_read (X := unscopedSems0 c) (c := c) fupd_intro s') $$ [Hu HSI] with ⟨%hz, HSI⟩
      · isplitl [Hu] <;> iassumption
      imodintro
      isplitr; · ipureintro; exact ⟨hz, ha⟩
      iexact HSI)
    (hQ := fun _ h hs => ⟨fun c => ⟨((h c).1 0).trans (final_o m ρ c), (h c).2.2.2⟩, sem_eq_zero hs fun c => (h c).2.2.1⟩)

end Cert.Gemm

end
-- ==== Proof.Same.lean ====
/- The kernel as printed and its idealized program are one text under two names: no operation was rewritten. So a run of the one
   is a run of the other, at every choice of float values. The two bodies are compared apart from the tables that call them. -/
module

public import proofs.«01_k».proof.Defs
public import proofs.«01_k».proof.Proof.Gen.Kernel
public import proofs.«01_k».proof.Proof.Gen.KernelIdeal

@[expose] public section

noncomputable section

namespace Cert.Same

open Idealize.ShloMosaic

variable {F : FTy → Type} [FloatOps F]

/-- The two kernel functions. -/
theorem body : Kernel.cc0_body (F := F) = KernelIdeal.cc0_body (F := F) := rfl

/-- The two tables of kernel bodies: one label, called on the same nineteen arguments. -/
theorem bodies : Kernel.defs₀ (F := F) = KernelIdeal.defs₀ (F := F) := by
  refine congrArg (Defs.onTc (τ := Kernel.τ)) (funext fun l => ?_)
  match l with
  | 0 =>
    funext a
    cases a
    exact congrFun (congrFun (congrFun (congrFun (congrFun (congrFun (congrFun (congrFun (congrFun (congrFun (congrFun (congrFun (congrFun
      (congrFun (congrFun (congrFun (congrFun (congrFun (congrFun body _) _) _) _) _) _) _) _) _) _) _) _) _) _) _) _) _) _) _
  | ⟨n + 1, h⟩ => exact absurd h (Nat.not_lt.2 (Nat.le_add_left _ _))

/-- The two tables of bodies and pipelines. -/
theorem defs : Kernel.defs (F := F) = KernelIdeal.defs (F := F) := congrArg (Pipeline.defs Kernel.pcfgs) bodies

end Cert.Same

end
-- ==== Proof.Value.lean ====
/- What the devices compute, over the extended reals: device `c`'s block of the product of the whole arrays, activated. -/
module

public import proofs.«01_k».proof.Proof.Steps
public import Idealize.ShloMosaic.Lib.Layout
public import Idealize.ShloMosaic.Lib.MatmulPlain
public import Idealize.ShloMosaic.Lib.IdealHost
public import Idealize.ShloMosaic.Lib.ValueIdx
public import Idealize.ShloMosaic.Lib.Pipeline.Value
public import Mathlib.Logic.Equiv.Fin.Basic

@[expose] public section

noncomputable section

namespace Cert.Gemm

open Cert.KernelIdeal Cert.KernelIdeal.Gen

open Idealize.ShloMosaic
open Idealize.ShloMosaic.TcCoe
open Idealize.ShloMosaic.ValueIdx
open scoped BigOperators

/-! ## One block's product -/

/-- The product of a block of 512 columns with 512 rows of weights, at row `r` and column `n`. -/
def bprod (l : FVec Ideal S512x512 .bf16) (w : FVec Ideal S512x2048 .f32) (r : Fin 512) (n : Fin 2048) : EReal :=
  ∑ k : Fin 512, l (ix2 r k) * w (ix2 k n)

/-- The product as the kernel writes it: onto zeros, the weights cast first. -/
theorem matmul_eq (l : FVec Ideal S512x512 .bf16) (w : FVec Ideal S512x2048 .f32) (r : Fin 512) (n : Fin 2048) :
    matmul dot_S512x512_S512x2048_S512x2048_1_0_0_1_n_n none l (truncf .bf16 w bitsLt_bf16_f32)
      (constant S512x2048 .f32 0x00000000#32) (ix2 r n) = bprod l w r n := by
  have h := Ideal.matmul_plain_apply (M := 512) (K := 512) (N := 2048) none l (truncf .bf16 w bitsLt_bf16_f32)
    (constant S512x2048 .f32 0x00000000#32) r n
  rw [constant_apply, Ideal.ofBits_zero_f32, zero_add] at h
  exact h

/-- The activation of the problem: `y / (1 + exp (−y))`. -/
def act (y : EReal) : EReal := Ideal.div y (Ideal.ofBits .f32 0x3F800000#32 + Ideal.exp (-y))

/-- A landed block without its leading axis of size one is the partner's block. -/
theorem drop_ldv (m : (ℓ : Loc nD τ sig) → Buf (Elt Ideal) ℓ) (c : Dev nD) (s : Fin 7) :
    shapeCast S512x512 (ldv m c s) shapeCasts_S1x512x512_S512x512 = xblk m (peer c s) c :=
  shapeCast_shapeCast _ _ _

/-- The first slots' step adds a product to the sum so far. -/
theorem add_apply (l : FVec Ideal S512x512 .bf16) (w o : FVec Ideal S512x2048 .f32) (r : Fin 512) (n : Fin 2048) :
    addf (shapeCast S512x2048 o shapeCasts_S512x2048_S512x2048)
      (matmul dot_S512x512_S512x2048_S512x2048_1_0_0_1_n_n none l (truncf .bf16 w bitsLt_bf16_f32)
        (constant S512x2048 .f32 0x00000000#32)) (ix2 r n) = o (ix2 r n) + bprod l w r n := by
  rw [addf_apply, shapeCast_self, matmul_eq]

/-- A slot's step adds the product of the block that landed there and its rows of the weights; -/
theorem accS_apply (m : (ℓ : Loc nD τ sig) → Buf (Elt Ideal) ℓ) (c : Dev nD) (s : Fin 7) (hs : s ≠ 6) (o : FVec Ideal S512x2048 .f32)
    (r : Fin 512) (n : Fin 2048) :
    accS m c s o (ix2 r n) = o (ix2 r n) + bprod (xblk m (peer c s) c) (wrow m c (peer c s)) r n := by
  rw [← drop_ldv m c s]
  unfold accS
  match s, hs with
  | 0, _ | 1, _ | 2, _ | 3, _ | 4, _ | 5, _ => exact add_apply _ _ _ r n
  | 6, h => exact absurd rfl h

/-- the last slot's step then takes the activation. -/
theorem accS_last (m : (ℓ : Loc nD τ sig) → Buf (Elt Ideal) ℓ) (c : Dev nD) (o : FVec Ideal S512x2048 .f32) (r : Fin 512) (n : Fin 2048) :
    accS m c 6 o (ix2 r n) = act (o (ix2 r n) + bprod (xblk m (peer c 6) c) (wrow m c (peer c 6)) r n) := by
  rw [← drop_ldv m c 6, ← add_apply]
  show Ideal.div _ (Ideal.ofBits .f32 0x3F800000#32 + Ideal.exp (Ideal.ofBits .f32 0x00000000#32 - _)) = _
  rw [Ideal.ofBits_zero_f32, zero_sub]
  rfl

/-- Device `c`'s result: the products with all eight devices' blocks, summed and activated. -/
theorem outC_apply (m : (ℓ : Loc nD τ sig) → Buf (Elt Ideal) ℓ) (c : Dev nD) (r : Fin 512) (n : Fin 2048) :
    outC m c (ix2 r n) = act (∑ d : Dev nD, bprod (xblk m d c) (wrow m c d) r n) := by
  have h2 : k0_pay2 (xblk m c c) (wrow m c c) (ix2 r n) = bprod (xblk m c c) (wrow m c c) r n := matmul_eq _ _ r n
  unfold outC
  rw [accS_last, accS_apply m c 5 (by decide), accS_apply m c 4 (by decide), accS_apply m c 3 (by decide), accS_apply m c 2 (by decide),
    accS_apply m c 1 (by decide), accS_apply m c 0 (by decide), h2, devs_list c, List.sum_toFinset _ (devs_nodup c)]
  refine congrArg act ?_
  simp only [List.map_cons, List.map_nil, List.sum_cons, List.sum_nil, add_zero, add_assoc]

/-! ## The whole arrays -/

/-- The product of the whole arrays at a row and a column. -/
def prod (X : FVec Ideal ⟨2, ![4096, 4096]⟩ .f32) (W : FVec Ideal S4096x2048 .f32) (r : Fin 4096) (n : Fin 2048) : EReal :=
  ∑ k : Fin 4096, X (ix2 r k) * W (ix2 k n)

/-- Row `512·b + k` of 4096. -/
def at512 (b : Dev nD) (k : Fin 512) : Fin 4096 := ⟨512 * b.val + k.val, by have : b.val < 8 := b.isLt; omega⟩

/-- A sum of 4096 terms by eight blocks of 512. -/
theorem sum_blocks (f : Fin 4096 → EReal) : ∑ k : Fin 4096, f k = ∑ d : Dev nD, ∑ k : Fin 512, f (at512 d k) := by
  rw [← Fintype.sum_prod_type' (f := fun (d : Dev nD) (k : Fin 512) => f (at512 d k))]
  refine ((Equiv.sum_comp (finProdFinEquiv (m := 8) (n := 512)) f).symm.trans ?_)
  exact Finset.sum_congr rfl fun x _ => congrArg f (Fin.ext (Nat.add_comm _ _))

section
variable (m : (ℓ : Loc nD τ sig) → Buf (Elt Ideal) ℓ) (X : FVec Ideal ⟨2, ![4096, 4096]⟩ .f32) (W : FVec Ideal S4096x2048 .f32)

/-- A block of a device's columns, in the whole array: its rows are the block's, its columns the device's. -/
theorem xblk_apply (hx : ∀ c : Dev nD, xAt m c = Layout.block ⟨2, ![4096, 512]⟩ ⟨2, ![4096, 4096]⟩ 1 8 c X) (d b : Dev nD) (r k : Fin 512) :
    xblk m d b (ix2 r k) = X (ix2 (at512 b r) (at512 d k)) := by
  have e : xblk m d b (ix2 r k) = xAt m d (ix2 (at512 b r) k) := by
    show xb m d (((blkM b).view.emb (ix2 r k))) = _
    have hi : ((blkM b).view.emb (ix2 r k) : S4096x512.Idx) = ix2 (at512 b r) k := by
      funext a; apply Fin.ext
      match a with
      | ⟨0, _⟩ => show 512 * b.val + 1 * r.val = 512 * b.val + r.val; omega
      | ⟨1, _⟩ => show 0 + 1 * k.val = k.val; omega
    rw [hi]
    exact congrFun (shapeCast_self _ _) _
  rw [e, hx d, Layout.block_apply]
  refine congrArg X (funext fun a => Fin.ext ?_)
  match a with
  | ⟨0, _⟩ => rfl
  | ⟨1, _⟩ => show d.val * 512 + k.val = 512 * d.val + k.val; omega

/-- The rows of weights that go with block `d`. -/
theorem wrow_apply (hw : ∀ c : Dev nD, wAt m c = W) (c d : Dev nD) (k : Fin 512) (n : Fin 2048) :
    wrow m c d (ix2 k n) = W (ix2 (at512 d k) n) := by
  rw [← hw c]
  show wAt m c _ = _
  refine congrArg (wAt m c) (funext fun a => Fin.ext ?_)
  match a with
  | ⟨0, _⟩ => show 512 * d.val + 1 * k.val = 512 * d.val + k.val; omega
  | ⟨1, _⟩ => show 0 + 1 * n.val = n.val; omega

/-- Device `c`'s result is its rows of the activated product of the whole arrays. -/
theorem outC_eq (hx : ∀ c : Dev nD, xAt m c = Layout.block ⟨2, ![4096, 512]⟩ ⟨2, ![4096, 4096]⟩ 1 8 c X) (hw : ∀ c : Dev nD, wAt m c = W)
    (c : Dev nD) (r : Fin 512) (n : Fin 2048) : outC m c (ix2 r n) = act (prod X W (at512 c r) n) := by
  rw [outC_apply]
  unfold prod
  rw [sum_blocks]
  refine congrArg act (Finset.sum_congr rfl fun d _ => Finset.sum_congr rfl fun k _ => ?_)
  rw [xblk_apply m X hx, wrow_apply m W hw]

end

end Cert.Gemm

end
-- ==== Proof.Refs.lean ====
/- What the two references hold, over the extended reals: the activated product of the whole arrays — for the one with the clip,
   at the elements where the product lies between the clip's bounds. -/
module

public import proofs.«01_k».proof.Proof.Value
public import proofs.«01_k».proof.Proof.Gen.ReferenceIdeal.Run
public import proofs.«01_k».proof.Proof.Gen.UnclippedIdeal.Run
public import proofs.«01_k».proof.Proof.Gen.On_in_range
public import Idealize.ShloMosaic.Lib.StackMember

@[expose] public section

noncomputable section

namespace Cert.Gemm

open Idealize.ShloMosaic
open Idealize.ShloMosaic.ValueIdx
open scoped BigOperators

/-- The whole arrays' shapes. -/
abbrev SX : Shape := ⟨2, ![4096, 4096]⟩
abbrev SW : Shape := ⟨2, ![4096, 2048]⟩

/-- The activated product of the whole arrays. -/
def whole (X : FVec Ideal SX .f32) (W : FVec Ideal SW .f32) : FVec Ideal SW .f32 := fun i => act (prod X W (i 0) (i 1))

/-- The host's product of the whole arrays at an element. -/
theorem host_prod (X : FVec Ideal SX .f32) (W : FVec Ideal SW .f32) (i : SW.Idx) :
    Host.dotGeneral (DotDims.plain 4096 4096 2048) none X W i = prod X W (i 0) (i 1) := by
  have e : i = ix2 (n0 := 4096) (n1 := 2048) (i 0) (i 1) := by
    funext a
    match a with
    | ⟨0, _⟩ => rfl
    | ⟨1, _⟩ => rfl
  exact (congrArg (Host.dotGeneral (DotDims.plain 4096 4096 2048) none X W) e).trans
    (StackMember.dotGeneral_plain_apply (m := 4096) (k := 4096) (n := 2048) none X W (i 0) (i 1))

/-- A scalar constant spread over an array reads the constant. -/
theorem spread (b : BitVec FTy.f32.bits) (h : (⟨0, ![]⟩ : Shape).BroadcastsInDim SW ![]) (i : SW.Idx) :
    broadcastInDim SW ![] h (constant (F := Ideal) ⟨0, ![]⟩ .f32 b) i = Ideal.ofBits .f32 b := rfl

/-- The reference without the clip is the activated product. -/
theorem unclipped_eq (X : FVec Ideal SX .f32) (W : FVec Ideal SW .f32) (h : (⟨0, ![]⟩ : Shape).BroadcastsInDim SW ![]) :
    Host.divf (Host.dotGeneral (DotDims.plain 4096 4096 2048) none X W)
      (addf (broadcastInDim SW ![] h (constant ⟨0, ![]⟩ .f32 0x3F800000#32))
        (Host.exp (Host.negf (Host.dotGeneral (DotDims.plain 4096 4096 2048) none X W)))) = whole X W := by
  funext i
  show Ideal.div (Host.dotGeneral (DotDims.plain 4096 4096 2048) none X W i)
    (Ideal.ofBits .f32 0x3F800000#32 + Ideal.exp (-(Host.dotGeneral (DotDims.plain 4096 4096 2048) none X W i))) = _
  rw [host_prod]
  rfl

/-- Where the product lies between the clip's bounds, the reference with the clip is the activated product. -/
theorem clipped_eq (X : FVec Ideal SX .f32) (W : FVec Ideal SW .f32) (h : (⟨0, ![]⟩ : Shape).BroadcastsInDim SW ![]) (i : SW.Idx)
    (hlo : Ideal.ofBits .f32 0xC2700000#32 ≤ prod X W (i 0) (i 1)) (hhi : prod X W (i 0) (i 1) ≤ Ideal.ofBits .f32 0x42700000#32) :
    Host.divf (Host.dotGeneral (DotDims.plain 4096 4096 2048) none X W)
      (addf (broadcastInDim SW ![] h (constant ⟨0, ![]⟩ .f32 0x3F800000#32))
        (Host.exp (Host.negf (minimumf (broadcastInDim SW ![] h (id (constant ⟨0, ![]⟩ .f32 0x42700000#32)))
          (maximumf (broadcastInDim SW ![] h (id (constant ⟨0, ![]⟩ .f32 0xC2700000#32)))
            (Host.dotGeneral (DotDims.plain 4096 4096 2048) none X W)))))) i = whole X W i := by
  show Ideal.div (Host.dotGeneral (DotDims.plain 4096 4096 2048) none X W i)
    (Ideal.ofBits .f32 0x3F800000#32 + Ideal.exp (-(min (Ideal.ofBits .f32 0x42700000#32)
      (max (Ideal.ofBits .f32 0xC2700000#32) (Host.dotGeneral (DotDims.plain 4096 4096 2048) none X W i))))) = _
  rw [host_prod, max_eq_right hlo, min_eq_right hhi]
  rfl

/-- A bit that two comparisons make is set only where both hold. -/
theorem both {p q : Prop} [Decidable p] [Decidable q] (h : IntOp.andi (BitVec.ofBool (decide p)) (BitVec.ofBool (decide q)) = 1#1) :
    p ∧ q := by
  by_cases hp : p <;> by_cases hq : q
  · exact ⟨hp, hq⟩
  all_goals (exfalso; revert h; simp only [hp, hq, decide_true, decide_false]; decide)

/-- Where the mask is set the product lies between the clip's bounds. -/
theorem in_range (X : FVec Ideal SX .f32) (W : FVec Ideal SW .f32) (i : SW.Idx)
    (h : Cert.On_in_range.fn (F := Ideal) X W i = 1#1) :
    Ideal.ofBits .f32 0xC2700000#32 ≤ prod X W (i 0) (i 1) ∧ prod X W (i 0) (i 1) ≤ Ideal.ofBits .f32 0x42700000#32 := by
  rw [← host_prod]
  exact both h

end Cert.Gemm

end
-- ==== Proof.lean ====
module

public import proofs.«01_k».proof.Defs
public import proofs.«01_k».proof.Proof.Gen.Kernel
public import proofs.«01_k».proof.Proof.Run
public import proofs.«01_k».proof.Proof.Same
public import proofs.«01_k».proof.Proof.Refs
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.On_in_range
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel's run, for any float values, its results dropped: the operands unchanged and every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.Gemm.run_main m ρ)

/-- The kernel at bits: its text and the idealized program's are the same. -/
theorem frame_kernel : Cert.quiescent_Kernel := fun m ρ _ => by
  rw [Cert.Same.defs]
  exact frame_any (F := Bits) m ρ

/-- The kernel over the extended reals. -/
theorem frame_ideal : Cert.quiescent_KernelIdeal := fun m ρ _ => frame_any (F := Ideal) m ρ

/-- The reference's run; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The run of the reference without the clip; it declares no semaphore. -/
theorem frame_unclipped : Cert.quiescent_UnclippedIdeal := fun m ρ _ =>
  (θ_run Cert.UnclippedIdeal.defs _ _).mono (fun r h => ⟨fun c => (h c).2, sem_eq_zero_of_no_sems (by decide) r.2⟩)
    (Cert.UnclippedIdeal.Value.run (F := Ideal) m ρ)

/-- Where the devices' operands are the whole arrays' parts, each device's result is its block of the activated product. -/
theorem out_block (m : (ℓ : Loc Cert.KernelIdeal.nD Cert.KernelIdeal.τ Cert.KernelIdeal.sig) → Buf (Elt Ideal) ℓ)
    (X : FVec Ideal Cert.Gemm.SX .f32) (W : FVec Ideal Cert.Gemm.SW .f32)
    (hx : ∀ c : Dev Cert.KernelIdeal.nD, Cert.Gemm.xAt m c = Layout.block ⟨2, ![4096, 512]⟩ ⟨2, ![4096, 4096]⟩ 1 8 c X)
    (hw : ∀ c : Dev Cert.KernelIdeal.nD, Cert.Gemm.wAt m c = W) (c : Dev Cert.KernelIdeal.nD) :
    Cert.Gemm.outC m c = Layout.block ⟨2, ![512, 2048]⟩ ⟨2, ![4096, 2048]⟩ 0 8 c (Cert.Gemm.whole X W) := by
  funext i
  have hi : i = ValueIdx.ix2 (n0 := 512) (n1 := 2048) (i 0) (i 1) := by
    funext a
    match a with
    | ⟨0, _⟩ => rfl
    | ⟨1, _⟩ => rfl
  refine (congrArg (Cert.Gemm.outC m c) hi).trans ((Cert.Gemm.outC_eq m X W hx hw c (i 0) (i 1)).trans ?_)
  rw [Layout.block_apply]
  have h := Layout.idx_rows_val (dS := ![512, 2048]) (dT := ![4096, 2048]) (k := 8) (by decide) c i
  exact congrArg Cert.Gemm.act (congrArg₂ (Cert.Gemm.prod X W) (Fin.ext ((congrArg (· + (i 0).val) (Nat.mul_comm 512 c.val)).trans h.1.symm)) (Fin.ext h.2.symm))

/-- Kernel and reference without the clip: on every device, every element. -/
theorem value_unclipped : Cert.algebraic_KernelIdeal_UnclippedIdeal := by
  intro m ρ m' ρ' _ hagree
  refine ⟨Cert.Gemm.whole (m' (((0 : Dev Cert.UnclippedIdeal.nD).tc : Thread Cert.UnclippedIdeal.nD Cert.UnclippedIdeal.τ).loc Cert.UnclippedIdeal.main_arg0))
    (m' (((0 : Dev Cert.UnclippedIdeal.nD).tc : Thread Cert.UnclippedIdeal.nD Cert.UnclippedIdeal.τ).loc Cert.UnclippedIdeal.main_arg1)), ?_, ?_⟩
  · exact (θ_run Cert.KernelIdeal.defs _ _).mono
      (fun _ h c => ⟨(h.1 c).1.trans (out_block m _ _ (fun c => (hagree c).1) (fun c => (hagree c).2) c), (h.1 c).2⟩)
      (Cert.Gemm.run_main (F := Ideal) m ρ)
  · exact (θ_run Cert.UnclippedIdeal.defs _ _).mono
      (fun _ h => ⟨(h 0).1.trans (Cert.Gemm.unclipped_eq _ _ _), (h 0).2⟩)
      (Cert.UnclippedIdeal.Value.run (F := Ideal) m' ρ')

/-- Kernel and reference.py's lines, clip and all: at every element where the clip changes nothing. -/
theorem value_clipped : Cert.algebraic_KernelIdeal_ReferenceIdeal_on_in_range := by
  intro m ρ m' ρ' _ hagree
  refine ⟨Cert.Gemm.whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨fun i _ => congrFun ((h.1 c).1.trans (out_block m _ _ (fun c => (hagree c).1) (fun c => (hagree c).2) c)) i, (h.1 c).2⟩)
      (Cert.Gemm.run_main (F := Ideal) m ρ)
  · exact (θ_run Cert.ReferenceIdeal.defs _ _).mono
      (fun _ h => ⟨fun i hi => (congrFun (h 0).1 i).trans
        (Cert.Gemm.clipped_eq _ _ _ i (Cert.Gemm.in_range _ _ i hi).1 (Cert.Gemm.in_range _ _ i hi).2), (h 0).2⟩)
      (Cert.ReferenceIdeal.Value.run (F := Ideal) m' ρ')

theorem claim : Cert.Claim :=
  ⟨Cert.Kernel.Gen.facts, Cert.KernelIdeal.Gen.facts, Cert.ReferenceIdeal.Gen.facts, Cert.UnclippedIdeal.Gen.facts,
    Cert.On_in_range.Gen.facts, frame_kernel, frame_ideal, frame_reference, frame_unclipped, trivial, value_unclipped, value_clipped⟩

end Cert.Proof

end
